-- ==== Defs.lean ====
def Pre_K (m : (ℓ : Loc Cert.K.nD Cert.K.τ Cert.K.sig) → Buf (Elt Bits) ℓ) : Prop :=
  True

def Pre_KI (m : (ℓ : Loc Cert.KI.nD Cert.KI.τ Cert.KI.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_K [hK : Cert.K.Facts] : Prop :=
  ∀ (m : (ℓ : Loc Cert.K.nD Cert.K.τ Cert.K.sig) → Buf (Elt Bits) ℓ) (g : Dev Cert.K.nD → PrngReg), Pre_K m →
    θ_run (Cert.K.defs (F := Bits)) (onTc (τ := Cert.K.τ) (Cert.K.main (F := Bits))) ⟨m, fun _ => 0, g⟩ (fun r => (∀ c : Dev Cert.K.nD,
      r.2.mem ((c.tc : Thread Cert.K.nD Cert.K.τ).loc Cert.K.main_arg0) = m ((c.tc : Thread Cert.K.nD Cert.K.τ).loc Cert.K.main_arg0)
      ∧ r.2.mem ((c.tc : Thread Cert.K.nD Cert.K.τ).loc Cert.K.main_arg1) = m ((c.tc : Thread Cert.K.nD Cert.K.τ).loc Cert.K.main_arg1)
      ∧ r.2.mem ((c.tc : Thread Cert.K.nD Cert.K.τ).loc Cert.K.main_arg2) = m ((c.tc : Thread Cert.K.nD Cert.K.τ).loc Cert.K.main_arg2)
      ∧ r.2.mem ((c.tc : Thread Cert.K.nD Cert.K.τ).loc Cert.K.main_arg3) = m ((c.tc : Thread Cert.K.nD Cert.K.τ).loc Cert.K.main_arg3))
      ∧ r.2.sem = fun _ => 0)

def quiescent_KI [hKI : Cert.KI.Facts] : Prop :=
  ∀ (m : (ℓ : Loc Cert.KI.nD Cert.KI.τ Cert.KI.sig) → Buf (Elt Ideal) ℓ) (g : Dev Cert.KI.nD → PrngReg), Pre_KI m →
    θ_run (Cert.KI.defs (F := Ideal)) (onTc (τ := Cert.KI.τ) (Cert.KI.main (F := Ideal))) ⟨m, fun _ => 0, g⟩ (fun r => (∀ c : Dev Cert.KI.nD,
      r.2.mem ((c.tc : Thread Cert.KI.nD Cert.KI.τ).loc Cert.KI.main_arg0) = m ((c.tc : Thread Cert.KI.nD Cert.KI.τ).loc Cert.KI.main_arg0)
      ∧ r.2.mem ((c.tc : Thread Cert.KI.nD Cert.KI.τ).loc Cert.KI.main_arg1) = m ((c.tc : Thread Cert.KI.nD Cert.KI.τ).loc Cert.KI.main_arg1)
      ∧ r.2.mem ((c.tc : Thread Cert.KI.nD Cert.KI.τ).loc Cert.KI.main_arg2) = m ((c.tc : Thread Cert.KI.nD Cert.KI.τ).loc Cert.KI.main_arg2)
      ∧ r.2.mem ((c.tc : Thread Cert.KI.nD Cert.KI.τ).loc Cert.KI.main_arg3) = m ((c.tc : Thread Cert.KI.nD Cert.KI.τ).loc Cert.KI.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_K_KI : Prop :=
  IdealRules.bf16_pair.BufferStatement Cert.KI.S160x2x256 Cert.KI.S160x1x256
  ∧ IdealRules.bf16_pair.Statement Cert.KI.S32x128 Cert.KI.S16x128
  ∧ IdealRules.bf16_pair.Statement Cert.KI.S16x2x128 Cert.KI.S16x1x128
  ∧ IdealRules.bf16_pair.Statement Cert.KI.S1x2x256 Cert.KI.S1x1x256
  ∧ IdealRules.bf16_pair.Statement Cert.KI.S2x256 Cert.KI.S1x256

def algebraic_KI_ReferenceIdeal [hKI : Cert.KI.Facts] [hReferenceIdeal : Cert.ReferenceIdeal.Facts] : Prop :=
  ∀ (m : (ℓ : Loc Cert.KI.nD Cert.KI.τ Cert.KI.sig) → Buf (Elt Ideal) ℓ) (g : Dev Cert.KI.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KI m →
    (∀ c : Dev Cert.KI.nD,
      m' ((c.tc : Thread Cert.ReferenceIdeal.nD Cert.ReferenceIdeal.τ).loc Cert.ReferenceIdeal.main_arg0) = m ((c.tc : Thread Cert.KI.nD Cert.KI.τ).loc Cert.KI.main_arg0)
      ∧ m' ((c.tc : Thread Cert.ReferenceIdeal.nD Cert.ReferenceIdeal.τ).loc Cert.ReferenceIdeal.main_arg1) = m ((c.tc : Thread Cert.KI.nD Cert.KI.τ).loc Cert.KI.main_arg1)
      ∧ m' ((c.tc : Thread Cert.ReferenceIdeal.nD Cert.ReferenceIdeal.τ).loc Cert.ReferenceIdeal.main_arg2) = m ((c.tc : Thread Cert.KI.nD Cert.KI.τ).loc Cert.KI.main_arg2)
      ∧ m' ((c.tc : Thread Cert.ReferenceIdeal.nD Cert.ReferenceIdeal.τ).loc Cert.ReferenceIdeal.main_arg3) = m ((c.tc : Thread Cert.KI.nD Cert.KI.τ).loc Cert.KI.main_arg3)) →
    ∃ (v0 : (c : Dev Cert.KI.nD) → Buf (Elt Ideal) ((c.tc : Thread Cert.KI.nD Cert.KI.τ).loc Cert.KI.main_v12)),
      θ_run (Cert.KI.defs (F := Ideal)) (onTc (τ := Cert.KI.τ) (Cert.KI.main (F := Ideal))) ⟨m, fun _ => 0, g⟩ (fun r => ∀ c : Dev Cert.KI.nD,
          r.2.mem ((c.tc : Thread Cert.KI.nD Cert.KI.τ).loc Cert.KI.main_v12) = v0 c
          ∧ r.2.mem ((c.tc : Thread Cert.KI.nD Cert.KI.τ).loc Cert.KI.main_arg0) = m ((c.tc : Thread Cert.KI.nD Cert.KI.τ).loc Cert.KI.main_arg0)
          ∧ r.2.mem ((c.tc : Thread Cert.KI.nD Cert.KI.τ).loc Cert.KI.main_arg1) = m ((c.tc : Thread Cert.KI.nD Cert.KI.τ).loc Cert.KI.main_arg1)
          ∧ r.2.mem ((c.tc : Thread Cert.KI.nD Cert.KI.τ).loc Cert.KI.main_arg2) = m ((c.tc : Thread Cert.KI.nD Cert.KI.τ).loc Cert.KI.main_arg2)
          ∧ r.2.mem ((c.tc : Thread Cert.KI.nD Cert.KI.τ).loc Cert.KI.main_arg3) = m ((c.tc : Thread Cert.KI.nD Cert.KI.τ).loc Cert.KI.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hK : Cert.K.Facts) (hKI : Cert.KI.Facts) (hReferenceIdeal : Cert.ReferenceIdeal.Facts),
    quiescent_K (hK := hK)
    ∧ quiescent_KI (hKI := hKI)
    ∧ quiescent_ReferenceIdeal (hReferenceIdeal := hReferenceIdeal)
    ∧ preserves_K_KI
    ∧ algebraic_KI_ReferenceIdeal (hKI := hKI) (hReferenceIdeal := hReferenceIdeal)
-- ==== K.lean ====
abbrev S8x1x5120 : Shape := ⟨3, ![8, 1, 5120]⟩
abbrev S5120x8960 : Shape := ⟨2, ![5120, 8960]⟩
abbrev S320x17920 : Shape := ⟨2, ![320, 17920]⟩
abbrev S_ : Shape := ⟨0, ![]⟩
abbrev S8x5120 : Shape := ⟨2, ![8, 5120]⟩
abbrev S8x5120x1 : Shape := ⟨3, ![8, 5120, 1]⟩
abbrev S8x5120x2 : Shape := ⟨3, ![8, 5120, 2]⟩
abbrev S8x10240 : Shape := ⟨2, ![8, 10240]⟩
abbrev S16x10240 : Shape := ⟨2, ![16, 10240]⟩
abbrev S1x1 : Shape := ⟨2, ![1, 1]⟩
abbrev S8x17920 : Shape := ⟨2, ![8, 17920]⟩
abbrev S5120x256 : Shape := ⟨2, ![5120, 256]⟩
abbrev S320x512 : Shape := ⟨2, ![320, 512]⟩
abbrev S8x512 : Shape := ⟨2, ![8, 512]⟩
abbrev S160x256 : Shape := ⟨2, ![160, 256]⟩
abbrev S32x128 : Shape := ⟨2, ![32, 128]⟩
abbrev S32x128x1 : Shape := ⟨3, ![32, 128, 1]⟩
abbrev S16x128 : Shape := ⟨2, ![16, 128]⟩
abbrev S16x256 : Shape := ⟨2, ![16, 256]⟩
abbrev S256x256 : Shape := ⟨2, ![256, 256]⟩
abbrev S512x256 : Shape := ⟨2, ![512, 256]⟩
abbrev S1x256 : Shape := ⟨2, ![1, 256]⟩
abbrev S2x256 : Shape := ⟨2, ![2, 256]⟩
abbrev S1x2x256 : Shape := ⟨3, ![1, 2, 256]⟩
abbrev S16x2x256 : Shape := ⟨3, ![16, 2, 256]⟩
abbrev S32x256 : Shape := ⟨2, ![32, 256]⟩
abbrev S16x512 : Shape := ⟨2, ![16, 512]⟩
abbrev S8x128 : Shape := ⟨2, ![8, 128]⟩
abbrev S8x128x1 : Shape := ⟨3, ![8, 128, 1]⟩
abbrev S8x256 : Shape := ⟨2, ![8, 256]⟩

abbrev nBuf : Space → Nat
  | .hbm => 18
  | .vmem => 9
  | .smem => 1
  | _ => 0

abbrev bufTy : (tb : Table) → Fin (tcTables nBuf tb) → BufTy
  | .hbm, ⟨0, _⟩ => ⟨S8x1x5120, .bf16⟩
  | .hbm, ⟨1, _⟩ => ⟨S5120x8960, .i8⟩
  | .hbm, ⟨2, _⟩ => ⟨S320x17920, .fp8e4m3⟩
  | .hbm, ⟨3, _⟩ => ⟨S_, .f32⟩
  | .hbm, ⟨4, _⟩ => ⟨S8x5120, .bf16⟩
  | .hbm, ⟨5, _⟩ => ⟨S_, .bf16⟩
  | .hbm, ⟨6, _⟩ => ⟨S8x5120, .bf16⟩
  | .hbm, ⟨7, _⟩ => ⟨S8x5120x1, .bf16⟩
  | .hbm, ⟨8, _⟩ => ⟨S8x5120x1, .bf16⟩
  | .hbm, ⟨9, _⟩ => ⟨S8x5120x2, .bf16⟩
  | .hbm, ⟨10, _⟩ => ⟨S8x10240, .bf16⟩
  | .hbm, ⟨11, _⟩ => ⟨S8x5120x1, .bf16⟩
  | .hbm, ⟨12, _⟩ => ⟨S8x5120x1, .bf16⟩
  | .hbm, ⟨13, _⟩ => ⟨S8x5120x2, .bf16⟩
  | .hbm, ⟨14, _⟩ => ⟨S8x10240, .bf16⟩
  | .hbm, ⟨15, _⟩ => ⟨S16x10240, .bf16⟩
  | .hbm, ⟨16, _⟩ => ⟨S1x1, .f32⟩
  | .hbm, ⟨17, _⟩ => ⟨S8x17920, .bf16⟩
  | .local _ .vmem, ⟨0, _⟩ => ⟨S16x10240, .bf16⟩
  | .local _ .vmem, ⟨1, _⟩ => ⟨S5120x256, .i8⟩
  | .local _ .vmem, ⟨2, _⟩ => ⟨S5120x256, .i8⟩
  | .local _ .vmem, ⟨3, _⟩ => ⟨S320x512, .fp8e4m3⟩
  | .local _ .vmem, ⟨4, _⟩ => ⟨S320x512, .fp8e4m3⟩
  | .local _ .vmem, ⟨5, _⟩ => ⟨S8x512, .bf16⟩
  | .local _ .vmem, ⟨6, _⟩ => ⟨S8x512, .bf16⟩
  | .local _ .vmem, ⟨7, _⟩ => ⟨S160x256, .i32⟩
  | .local _ .vmem, ⟨8, _⟩ => ⟨S160x256, .i32⟩
  | .local _ .smem, ⟨0, _⟩ => ⟨S1x1, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x10240 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KI.lean ====
abbrev S160x2x256 : Shape := ⟨3, ![160, 2, 256]⟩
abbrev S160x1x256 : Shape := ⟨3, ![160, 1, 256]⟩
abbrev S16x2x128 : Shape := ⟨3, ![16, 2, 128]⟩
abbrev S16x1x128 : Shape := ⟨3, ![16, 1, 128]⟩
abbrev S1x1x256 : Shape := ⟨3, ![1, 1, 256]⟩
  | .local _ .vmem, ⟨7, _⟩ => ⟨S160x2x256, .bf16⟩
  | .local _ .vmem, ⟨8, _⟩ => ⟨S160x2x256, .bf16⟩
variable {F : FTy → Type} [FloatOps F]
-- ==== ReferenceIdeal.lean ====
abbrev S8x1x5120 : Shape := ⟨3, ![8, 1, 5120]⟩
abbrev S5120x8960 : Shape := ⟨2, ![5120, 8960]⟩
abbrev S320x17920 : Shape := ⟨2, ![320, 17920]⟩
abbrev S_ : Shape := ⟨0, ![]⟩
abbrev S8x5120 : Shape := ⟨2, ![8, 5120]⟩
abbrev S320x8960 : Shape := ⟨2, ![320, 8960]⟩
abbrev S1x1 : Shape := ⟨2, ![1, 1]⟩
abbrev S8x17920 : Shape := ⟨2, ![8, 17920]⟩
abbrev S320x16x8960 : Shape := ⟨3, ![320, 16, 8960]⟩
abbrev S320x1x8960 : Shape := ⟨3, ![320, 1, 8960]⟩
abbrev S8x8960 : Shape := ⟨2, ![8, 8960]⟩
abbrev S8x8960x1 : Shape := ⟨3, ![8, 8960, 1]⟩
abbrev S8x8960x2 : Shape := ⟨3, ![8, 8960, 2]⟩

abbrev nBuf : Space → Nat
  | .hbm => 9
  | .vmem => 6
  | .smem => 0
  | _ => 0

abbrev bufTy : (tb : Table) → Fin (tcTables nBuf tb) → BufTy
  | .hbm, ⟨0, _⟩ => ⟨S8x1x5120, .bf16⟩
  | .hbm, ⟨1, _⟩ => ⟨S5120x8960, .i8⟩
  | .hbm, ⟨2, _⟩ => ⟨S320x17920, .fp8e4m3⟩
  | .hbm, ⟨3, _⟩ => ⟨S_, .f32⟩
  | .hbm, ⟨4, _⟩ => ⟨S8x5120, .bf16⟩
  | .hbm, ⟨5, _⟩ => ⟨S320x8960, .fp8e4m3⟩
  | .hbm, ⟨6, _⟩ => ⟨S320x8960, .fp8e4m3⟩
  | .hbm, ⟨7, _⟩ => ⟨S1x1, .f32⟩
  | .hbm, ⟨8, _⟩ => ⟨S8x17920, .bf16⟩
  | .local _ .vmem, ⟨0, _⟩ => ⟨S8x5120, .bf16⟩
  | .local _ .vmem, ⟨1, _⟩ => ⟨S5120x8960, .i8⟩
  | .local _ .vmem, ⟨2, _⟩ => ⟨S320x8960, .fp8e4m3⟩
  | .local _ .vmem, ⟨3, _⟩ => ⟨S320x8960, .fp8e4m3⟩
  | .local _ .vmem, ⟨4, _⟩ => ⟨S1x1, .f32⟩
  | .local _ .vmem, ⟨5, _⟩ => ⟨S8x17920, .bf16⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x8960 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x8960 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x8960 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x17920 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Body.lean ====
/- A uniform vocabulary for what the kernel's body computes: the pieces of the two scale buffers, the decoded weights of one
   K chunk, the product of one 16-row block with its scale row, and the step of the accumulator over one chunk. Each named
   term of the generated run is set equal to its uniform spelling, by definition. -/
module

public import proofs.«01_k».proof.Proof.Gen.KI.Value

@[expose] public section

set_option maxRecDepth 65536

noncomputable section

namespace Cert.KI.Body

open Cert.KI Cert.KI.Gen Cert.KI.Gen.kernelRun0_A Idealize.ShloMosaic Idealize.ShloMosaic.TcCoe

variable {F : FTy → Type} [FloatOps F]

/-- The even scale rows of two neighbouring 32 × 128 tiles, as the kernel stores them. -/
def evenPiece (a b : Vec F S32x128 .fp8e4m3) : Vec F S16x2x128 .bf16 := k0_pay100 k0_pay2 k0_pay4 k0_pay5 a b

/-- The odd scale rows of two neighbouring 32 × 128 tiles, as the kernel stores them. -/
def oddPiece (a b : Vec F S32x128 .fp8e4m3) : Vec F S16x2x128 .bf16 :=
  k0_pay101 (k0_pay97 k0_pay2 k0_pay4 k0_pay5 a b) (k0_pay99 k0_pay2 k0_pay4 k0_pay5 a b)

/-- Rows 32 g … of the block of scales, columns 128 u … . -/
theorem inbS (g : Fin 10) (u : Fin 4) : ∀ a, (![32 * g.val, 128 * u.val] : Fin 2 → ℕ) a + S32x128.size a ≤ S320x512.size a := by
  intro a; have hg := g.isLt; have hu := u.isLt
  fin_cases a
  · show 32 * g.val + 32 ≤ 320; omega
  · show 128 * u.val + 128 ≤ 512; omega

/-- Where a piece lies in a scale buffer. -/
theorem inbP (g : Fin 10) (h : Fin 2) : ∀ a, (![16 * g.val, 0, 128 * h.val] : Fin 3 → ℕ) a + S16x2x128.size a ≤ S160x2x256.size a := by
  intro a; have hg := g.isLt; have hh := h.isLt
  fin_cases a
  · show 16 * g.val + 16 ≤ 160; omega
  · show 0 + 2 ≤ 2; omega
  · show 128 * h.val + 128 ≤ 256; omega

/-- Where a scale row lies in a scale buffer. -/
theorem inbR (j : Fin 160) : ∀ a, (![j.val, 0, 0] : Fin 3 → ℕ) a + S1x2x256.size a ≤ S160x2x256.size a := by
  intro a; have hj := j.isLt
  fin_cases a
  · show j.val + 1 ≤ 160; omega
  · show 0 + 2 ≤ 2; omega
  · show 0 + 256 ≤ 256; omega

/-- Where a chunk of the weights lies. -/
theorem inbW (c : Fin 20) : ∀ a, (![256 * c.val, 0] : Fin 2 → ℕ) a + S256x256.size a ≤ S5120x256.size a := by
  intro a; have hj := c.isLt
  fin_cases a
  · show 256 * c.val + 256 ≤ 5120; omega
  · show 0 + 256 ≤ 256; omega

/-- Where a chunk of the activations lies. -/
theorem inbX (c : Fin 20) : ∀ a, (![0, 512 * c.val] : Fin 2 → ℕ) a + S16x512.size a ≤ S16x10240.size a := by
  intro a; have hj := c.isLt
  fin_cases a
  · show 0 + 16 ≤ 16; omega
  · show 512 * c.val + 512 ≤ 10240; omega

/-- Where a block of 32 decoded rows lies in its chunk. -/
theorem slB (i : Fin 16) : S512x256.Slices ![32 * i.val, 0] S32x256 := by
  refine ⟨rfl, fun a => ?_⟩
  have hi := i.isLt
  fin_cases a
  · show 32 * i.val + 32 ≤ 512; omega
  · show 0 + 256 ≤ 256; omega

/-- The decoded rows of block i times the block's two scale rows. -/
def block (i : Fin 16) (vals : FVec F S512x256 .bf16) (raw : Vec F S1x2x256 .bf16) : FVec F S32x256 .bf16 :=
  mulf (extractStridedSlice S32x256 ![32 * i.val, 0] vals (slB i))
    (shapeCast S32x256
      (broadcastTo S16x2x256
        (shapeCast S1x2x256
          (shapeCast S1x2x256
            (interleaveRows S2x256
              (shapeCast S1x256 (rowsOfParity 0 S1x1x256 raw bitcasts_S1x2x256_w16_S1x1x256_w32) shapeCasts_S1x1x256_S1x256)
              (shapeCast S1x256 (rowsOfParity 1 S1x1x256 raw bitcasts_S1x2x256_w16_S1x1x256_w32) shapeCasts_S1x1x256_S1x256)
              bitcasts_S2x256_w16_S1x256_w32)
            shapeCasts_S2x256_S1x2x256)
          shapeCasts_S1x2x256_S1x2x256)
        broadcasts_S1x2x256_S16x2x256)
      shapeCasts_S16x2x256_S32x256)

/-- The accumulator after a chunk: plus the product of the chunk's activations with its scaled decoded rows. -/
def step (acc : FVec F S16x256 .f32) (vals : FVec F S512x256 .bf16) (raws : Fin 16 → Vec F S1x2x256 .bf16)
    (xs : Vec F S16x512 .bf16) : FVec F S16x256 .f32 :=
  addf acc (matmul dot_S16x512_S512x256_S16x256_1_0_0_1_n_n none (shapeCast S16x512 xs shapeCasts_S16x512_S16x512)
    (concatenate S512x256 0 [⟨S32x256, block 0 vals (raws 0)⟩, ⟨S32x256, block 1 vals (raws 1)⟩, ⟨S32x256, block 2 vals (raws 2)⟩, ⟨S32x256, block 3 vals (raws 3)⟩, ⟨S32x256, block 4 vals (raws 4)⟩, ⟨S32x256, block 5 vals (raws 5)⟩, ⟨S32x256, block 6 vals (raws 6)⟩, ⟨S32x256, block 7 vals (raws 7)⟩, ⟨S32x256, block 8 vals (raws 8)⟩, ⟨S32x256, block 9 vals (raws 9)⟩, ⟨S32x256, block 10 vals (raws 10)⟩, ⟨S32x256, block 11 vals (raws 11)⟩, ⟨S32x256, block 12 vals (raws 12)⟩, ⟨S32x256, block 13 vals (raws 13)⟩, ⟨S32x256, block 14 vals (raws 14)⟩, ⟨S32x256, block 15 vals (raws 15)⟩]
      concatenates_S32x256_S32x256_S32x256_S32x256_S32x256_S32x256_S32x256_S32x256_S32x256_S32x256_S32x256_S32x256_S32x256_S32x256_S32x256_S32x256_S512x256_d0)
    (constant S16x256 .f32 0x00000000#32))

/-- The decoded weights of one chunk. -/
def decode (w : Vec F S256x256 .i8) : FVec F S512x256 .bf16 := k0_pay226 w

/-- The two output halves: lanes of the upper 8 rows and of the lower 8 rows, one after the other. -/
def interleaved (a b : FVec F S8x128 .f32) : FVec F S8x256 .bf16 :=
  k0_pay1 a b (iota .tc S8x128 32 [1] iota_S8x128_d1_w32) k0_pay604
    (k0_pay607 a k0_pay605 0#32) (k0_pay607 b k0_pay605 0#32)

section
variable (c : Dev nD)
  (arg1 : Memref sig Kind.tc Space.smem S1x1 EltTy.f32) (harg1 : arg1.IsWhole)
  (arg2 : Memref sig Kind.tc Space.vmem S16x10240 EltTy.bf16) (harg2 : arg2.IsWhole)
  (arg3 : Memref sig Kind.tc Space.vmem S5120x256 EltTy.i8) (harg3 : arg3.IsWhole)
  (arg4 : Memref sig Kind.tc Space.vmem S320x512 EltTy.fp8e4m3) (harg4 : arg4.IsWhole)
  (arg5 : Memref sig Kind.tc Space.vmem S8x512 EltTy.bf16) (harg5 : arg5.IsWhole)
  (arg6 : Memref sig Kind.tc Space.vmem S160x2x256 EltTy.bf16) (harg6 : arg6.IsWhole)
  (arg7 : Memref sig Kind.tc Space.vmem S160x2x256 EltTy.bf16) (harg7 : arg7.IsWhole)
  (x0 : Vec F S1x1 .f32) (x1 : Vec F S16x10240 .bf16) (x2 : Vec F S5120x256 .i8) (x3 : Vec F S320x512 .fp8e4m3)

/-- A tile of the block of scales. -/
def tile (g : Fin 10) (u : Fin 4) : Vec F S32x128 .fp8e4m3 :=
  View.readAt (Elt F) arg4.view (Rect.unit (s := S320x512) ![32 * g.val, 128 * u.val] S32x128.size (inbS g u)).toLoadRect (harg4.unread x3)

/-- The piece of the even rows' buffer at rows 16 g …, lanes 128 h … . -/
def pieceE (g : Fin 10) (h : Fin 2) : View.Piece (Elt F) S160x2x256 EltTy.bf16 :=
  ⟨Rect.unit (s := S160x2x256) ![16 * g.val, 0, 128 * h.val] S16x2x128.size (inbP g h),
    evenPiece (tile arg4 harg4 x3 g ⟨2 * h.val, by omega⟩) (tile arg4 harg4 x3 g ⟨2 * h.val + 1, by omega⟩)⟩

/-- The piece of the odd rows' buffer at rows 16 g …, lanes 128 h … . -/
def pieceO (g : Fin 10) (h : Fin 2) : View.Piece (Elt F) S160x2x256 EltTy.bf16 :=
  ⟨Rect.unit (s := S160x2x256) ![16 * g.val, 0, 128 * h.val] S16x2x128.size (inbP g h),
    oddPiece (tile arg4 harg4 x3 g ⟨2 * h.val, by omega⟩) (tile arg4 harg4 x3 g ⟨2 * h.val + 1, by omega⟩)⟩

/-- What the even rows' buffer holds once the scales are prepared. -/
theorem HS0_eq : sl.HS0_20 c arg4 harg4 x3 = [pieceE arg4 harg4 x3 9 1, pieceE arg4 harg4 x3 9 0, pieceE arg4 harg4 x3 8 1, pieceE arg4 harg4 x3 8 0, pieceE arg4 harg4 x3 7 1, pieceE arg4 harg4 x3 7 0, pieceE arg4 harg4 x3 6 1, pieceE arg4 harg4 x3 6 0, pieceE arg4 harg4 x3 5 1, pieceE arg4 harg4 x3 5 0, pieceE arg4 harg4 x3 4 1, pieceE arg4 harg4 x3 4 0, pieceE arg4 harg4 x3 3 1, pieceE arg4 harg4 x3 3 0, pieceE arg4 harg4 x3 2 1, pieceE arg4 harg4 x3 2 0, pieceE arg4 harg4 x3 1 1, pieceE arg4 harg4 x3 1 0, pieceE arg4 harg4 x3 0 1, pieceE arg4 harg4 x3 0 0] := rfl

/-- What the odd rows' buffer holds once the scales are prepared. -/
theorem HS1_eq : sl.HS1_20 c arg4 harg4 x3 = [pieceO arg4 harg4 x3 9 1, pieceO arg4 harg4 x3 9 0, pieceO arg4 harg4 x3 8 1, pieceO arg4 harg4 x3 8 0, pieceO arg4 harg4 x3 7 1, pieceO arg4 harg4 x3 7 0, pieceO arg4 harg4 x3 6 1, pieceO arg4 harg4 x3 6 0, pieceO arg4 harg4 x3 5 1, pieceO arg4 harg4 x3 5 0, pieceO arg4 harg4 x3 4 1, pieceO arg4 harg4 x3 4 0, pieceO arg4 harg4 x3 3 1, pieceO arg4 harg4 x3 3 0, pieceO arg4 harg4 x3 2 1, pieceO arg4 harg4 x3 2 0, pieceO arg4 harg4 x3 1 1, pieceO arg4 harg4 x3 1 0, pieceO arg4 harg4 x3 0 1, pieceO arg4 harg4 x3 0 0] := rfl

/-- Row j of the even rows' buffer. -/
def rowE (j : Fin 160) : Vec F S1x2x256 .bf16 :=
  arg6.view.readCov (sl.HS0_20 c arg4 harg4 x3) (Rect.unit (s := S160x2x256) ![j.val, 0, 0] S1x2x256.size (inbR j)).toLoadRect

/-- Row j of the odd rows' buffer. -/
def rowO (j : Fin 160) : Vec F S1x2x256 .bf16 :=
  arg7.view.readCov (sl.HS1_20 c arg4 harg4 x3) (Rect.unit (s := S160x2x256) ![j.val, 0, 0] S1x2x256.size (inbR j)).toLoadRect

/-- The scale rows of chunk k, block by block. -/
def raws (k : Fin 20) (i : Fin 16) : Vec F S1x2x256 .bf16 :=
  if i.val % 2 = 0 then rowE c arg4 harg4 arg6 x3 ⟨8 * k.val + i.val / 2, by omega⟩
  else rowO c arg4 harg4 arg7 x3 ⟨8 * k.val + i.val / 2, by omega⟩

/-- The weights of chunk k. -/
def ws (k : Fin 20) : Vec F S256x256 .i8 :=
  View.readAt (Elt F) arg3.view (Rect.unit (s := S5120x256) ![256 * k.val, 0] S256x256.size (inbW k)).toLoadRect (harg3.unread x2)

/-- The activations of chunk k. -/
def xs (k : Fin 20) : Vec F S16x512 .bf16 :=
  View.readAt (Elt F) arg2.view (Rect.unit (s := S16x10240) ![0, 512 * k.val] S16x512.size (inbX k)).toLoadRect (harg2.unread x1)

/-- The accumulator's step over chunk k. -/
def stepAt (k : Fin 20) (acc : FVec F S16x256 .f32) : FVec F S16x256 .f32 :=
  step acc (decode (ws arg3 harg3 x2 k)) (raws c arg4 harg4 arg6 arg7 x3 k) (xs arg2 harg2 x1 k)

/-- The accumulator after chunk 0. -/
theorem acc_0 : sl.r_79 c arg2 harg2 arg3 harg3 arg4 harg4 arg6 arg7 x1 x2 x3 = stepAt c arg2 harg2 arg3 harg3 arg4 harg4 arg6 arg7 x1 x2 x3 0 (k0_pay184) := rfl

/-- The accumulator after chunk 1. -/
theorem acc_1 : sl.r_99 c arg2 harg2 arg3 harg3 arg4 harg4 arg6 arg7 x1 x2 x3 = stepAt c arg2 harg2 arg3 harg3 arg4 harg4 arg6 arg7 x1 x2 x3 1 (sl.r_79 c arg2 harg2 arg3 harg3 arg4 harg4 arg6 arg7 x1 x2 x3) := rfl

/-- The accumulator after chunk 2. -/
theorem acc_2 : sl.r_116 c arg2 harg2 arg3 harg3 arg4 harg4 arg6 arg7 x1 x2 x3 = stepAt c arg2 harg2 arg3 harg3 arg4 harg4 arg6 arg7 x1 x2 x3 2 (sl.r_99 c arg2 harg2 arg3 harg3 arg4 harg4 arg6 arg7 x1 x2 x3) := rfl

/-- The accumulator after chunk 3. -/
theorem acc_3 : sl.r_139 c arg2 harg2 arg3 harg3 arg4 harg4 arg6 arg7 x1 x2 x3 = stepAt c arg2 harg2 arg3 harg3 arg4 harg4 arg6 arg7 x1 x2 x3 3 (sl.r_116 c arg2 harg2 arg3 harg3 arg4 harg4 arg6 arg7 x1 x2 x3) := rfl

/-- The accumulator after chunk 4. -/
theorem acc_4 : sl.r_156 c arg2 harg2 arg3 harg3 arg4 harg4 arg6 arg7 x1 x2 x3 = stepAt c arg2 harg2 arg3 harg3 arg4 harg4 arg6 arg7 x1 x2 x3 4 (sl.r_139 c arg2 harg2 arg3 harg3 arg4 harg4 arg6 arg7 x1 x2 x3) := rfl

/-- The accumulator after chunk 5. -/
theorem acc_5 : sl.r_179 c arg2 harg2 arg3 harg3 arg4 harg4 arg6 arg7 x1 x2 x3 = stepAt c arg2 harg2 arg3 harg3 arg4 harg4 arg6 arg7 x1 x2 x3 5 (sl.r_156 c arg2 harg2 arg3 harg3 arg4 harg4 arg6 arg7 x1 x2 x3) := rfl

/-- The accumulator after chunk 6. -/
theorem acc_6 : sl.r_198 c arg2 harg2 arg3 harg3 arg4 harg4 arg6 arg7 x1 x2 x3 = stepAt c arg2 harg2 arg3 harg3 arg4 harg4 arg6 arg7 x1 x2 x3 6 (sl.r_179 c arg2 harg2 arg3 harg3 arg4 harg4 arg6 arg7 x1 x2 x3) := rfl

/-- The accumulator after chunk 7. -/
theorem acc_7 : sl.r_217 c arg2 harg2 arg3 harg3 arg4 harg4 arg6 arg7 x1 x2 x3 = stepAt c arg2 harg2 arg3 harg3 arg4 harg4 arg6 arg7 x1 x2 x3 7 (sl.r_198 c arg2 harg2 arg3 harg3 arg4 harg4 arg6 arg7 x1 x2 x3) := rfl

/-- The accumulator after chunk 8. -/
theorem acc_8 : sl.r_235 c arg2 harg2 arg3 harg3 arg4 harg4 arg6 arg7 x1 x2 x3 = stepAt c arg2 harg2 arg3 harg3 arg4 harg4 arg6 arg7 x1 x2 x3 8 (sl.r_217 c arg2 harg2 arg3 harg3 arg4 harg4 arg6 arg7 x1 x2 x3) := rfl

/-- The accumulator after chunk 9. -/
theorem acc_9 : sl.r_256 c arg2 harg2 arg3 harg3 arg4 harg4 arg6 arg7 x1 x2 x3 = stepAt c arg2 harg2 arg3 harg3 arg4 harg4 arg6 arg7 x1 x2 x3 9 (sl.r_235 c arg2 harg2 arg3 harg3 arg4 harg4 arg6 arg7 x1 x2 x3) := rfl

/-- The accumulator after chunk 10. -/
theorem acc_10 : sl.r_275 c arg2 harg2 arg3 harg3 arg4 harg4 arg6 arg7 x1 x2 x3 = stepAt c arg2 harg2 arg3 harg3 arg4 harg4 arg6 arg7 x1 x2 x3 10 (sl.r_256 c arg2 harg2 arg3 harg3 arg4 harg4 arg6 arg7 x1 x2 x3) := rfl

/-- The accumulator after chunk 11. -/
theorem acc_11 : sl.r_295 c arg2 harg2 arg3 harg3 arg4 harg4 arg6 arg7 x1 x2 x3 = stepAt c arg2 harg2 arg3 harg3 arg4 harg4 arg6 arg7 x1 x2 x3 11 (sl.r_275 c arg2 harg2 arg3 harg3 arg4 harg4 arg6 arg7 x1 x2 x3) := rfl

/-- The accumulator after chunk 12. -/
theorem acc_12 : sl.r_312 c arg2 harg2 arg3 harg3 arg4 harg4 arg6 arg7 x1 x2 x3 = stepAt c arg2 harg2 arg3 harg3 arg4 harg4 arg6 arg7 x1 x2 x3 12 (sl.r_295 c arg2 harg2 arg3 harg3 arg4 harg4 arg6 arg7 x1 x2 x3) := rfl

/-- The accumulator after chunk 13. -/
theorem acc_13 : sl.r_335 c arg2 harg2 arg3 harg3 arg4 harg4 arg6 arg7 x1 x2 x3 = stepAt c arg2 harg2 arg3 harg3 arg4 harg4 arg6 arg7 x1 x2 x3 13 (sl.r_312 c arg2 harg2 arg3 harg3 arg4 harg4 arg6 arg7 x1 x2 x3) := rfl

/-- The accumulator after chunk 14. -/
theorem acc_14 : sl.r_352 c arg2 harg2 arg3 harg3 arg4 harg4 arg6 arg7 x1 x2 x3 = stepAt c arg2 harg2 arg3 harg3 arg4 harg4 arg6 arg7 x1 x2 x3 14 (sl.r_335 c arg2 harg2 arg3 harg3 arg4 harg4 arg6 arg7 x1 x2 x3) := rfl

/-- The accumulator after chunk 15. -/
theorem acc_15 : sl.r_375 c arg2 harg2 arg3 harg3 arg4 harg4 arg6 arg7 x1 x2 x3 = stepAt c arg2 harg2 arg3 harg3 arg4 harg4 arg6 arg7 x1 x2 x3 15 (sl.r_352 c arg2 harg2 arg3 harg3 arg4 harg4 arg6 arg7 x1 x2 x3) := rfl

/-- The accumulator after chunk 16. -/
theorem acc_16 : sl.r_394 c arg2 harg2 arg3 harg3 arg4 harg4 arg6 arg7 x1 x2 x3 = stepAt c arg2 harg2 arg3 harg3 arg4 harg4 arg6 arg7 x1 x2 x3 16 (sl.r_375 c arg2 harg2 arg3 harg3 arg4 harg4 arg6 arg7 x1 x2 x3) := rfl

/-- The accumulator after chunk 17. -/
theorem acc_17 : sl.r_413 c arg2 harg2 arg3 harg3 arg4 harg4 arg6 arg7 x1 x2 x3 = stepAt c arg2 harg2 arg3 harg3 arg4 harg4 arg6 arg7 x1 x2 x3 17 (sl.r_394 c arg2 harg2 arg3 harg3 arg4 harg4 arg6 arg7 x1 x2 x3) := rfl

/-- The accumulator after chunk 18. -/
theorem acc_18 : sl.r_431 c arg2 harg2 arg3 harg3 arg4 harg4 arg6 arg7 x1 x2 x3 = stepAt c arg2 harg2 arg3 harg3 arg4 harg4 arg6 arg7 x1 x2 x3 18 (sl.r_413 c arg2 harg2 arg3 harg3 arg4 harg4 arg6 arg7 x1 x2 x3) := rfl

/-- The accumulator after the last chunk, times the global scale. -/
theorem acc_19 : sl.r_452 c arg1 harg1 arg2 harg2 arg3 harg3 arg4 harg4 arg6 arg7 x0 x1 x2 x3 = mulf (stepAt c arg2 harg2 arg3 harg3 arg4 harg4 arg6 arg7 x1 x2 x3 19 (sl.r_431 c arg2 harg2 arg3 harg3 arg4 harg4 arg6 arg7 x1 x2 x3)) (broadcast S16x256 (sl.r c arg1 harg1 x0)) := rfl

/-- The accumulator after the first n chunks. -/
def upto : ℕ → FVec F S16x256 .f32
  | 0 => k0_pay184
  | n + 1 => if h : n < 20 then stepAt c arg2 harg2 arg3 harg3 arg4 harg4 arg6 arg7 x1 x2 x3 ⟨n, h⟩ (upto n) else upto n

/-- The accumulator the body holds after chunk 0. -/
theorem upto_0 : sl.r_79 c arg2 harg2 arg3 harg3 arg4 harg4 arg6 arg7 x1 x2 x3 = upto c arg2 harg2 arg3 harg3 arg4 harg4 arg6 arg7 x1 x2 x3 1 := acc_0 c arg2 harg2 arg3 harg3 arg4 harg4 arg6 arg7 x1 x2 x3

/-- The accumulator the body holds after chunk 1. -/
theorem upto_1 : sl.r_99 c arg2 harg2 arg3 harg3 arg4 harg4 arg6 arg7 x1 x2 x3 = upto c arg2 harg2 arg3 harg3 arg4 harg4 arg6 arg7 x1 x2 x3 2 := (acc_1 c arg2 harg2 arg3 harg3 arg4 harg4 arg6 arg7 x1 x2 x3).trans (congrArg (stepAt c arg2 harg2 arg3 harg3 arg4 harg4 arg6 arg7 x1 x2 x3 1) (upto_0 c arg2 harg2 arg3 harg3 arg4 harg4 arg6 arg7 x1 x2 x3))

/-- The accumulator the body holds after chunk 2. -/
theorem upto_2 : sl.r_116 c arg2 harg2 arg3 harg3 arg4 harg4 arg6 arg7 x1 x2 x3 = upto c arg2 harg2 arg3 harg3 arg4 harg4 arg6 arg7 x1 x2 x3 3 := (acc_2 c arg2 harg2 arg3 harg3 arg4 harg4 arg6 arg7 x1 x2 x3).trans (congrArg (stepAt c arg2 harg2 arg3 harg3 arg4 harg4 arg6 arg7 x1 x2 x3 2) (upto_1 c arg2 harg2 arg3 harg3 arg4 harg4 arg6 arg7 x1 x2 x3))

/-- The accumulator the body holds after chunk 3. -/
theorem upto_3 : sl.r_139 c arg2 harg2 arg3 harg3 arg4 harg4 arg6 arg7 x1 x2 x3 = upto c arg2 harg2 arg3 harg3 arg4 harg4 arg6 arg7 x1 x2 x3 4 := (acc_3 c arg2 harg2 arg3 harg3 arg4 harg4 arg6 arg7 x1 x2 x3).trans (congrArg (stepAt c arg2 harg2 arg3 harg3 arg4 harg4 arg6 arg7 x1 x2 x3 3) (upto_2 c arg2 harg2 arg3 harg3 arg4 harg4 arg6 arg7 x1 x2 x3))

/-- The accumulator the body holds after chunk 4. -/
theorem upto_4 : sl.r_156 c arg2 harg2 arg3 harg3 arg4 harg4 arg6 arg7 x1 x2 x3 = upto c arg2 harg2 arg3 harg3 arg4 harg4 arg6 arg7 x1 x2 x3 5 := (acc_4 c arg2 harg2 arg3 harg3 arg4 harg4 arg6 arg7 x1 x2 x3).trans (congrArg (stepAt c arg2 harg2 arg3 harg3 arg4 harg4 arg6 arg7 x1 x2 x3 4) (upto_3 c arg2 harg2 arg3 harg3 arg4 harg4 arg6 arg7 x1 x2 x3))

/-- The accumulator the body holds after chunk 5. -/
theorem upto_5 : sl.r_179 c arg2 harg2 arg3 harg3 arg4 harg4 arg6 arg7 x1 x2 x3 = upto c arg2 harg2 arg3 harg3 arg4 harg4 arg6 arg7 x1 x2 x3 6 := (acc_5 c arg2 harg2 arg3 harg3 arg4 harg4 arg6 arg7 x1 x2 x3).trans (congrArg (stepAt c arg2 harg2 arg3 harg3 arg4 harg4 arg6 arg7 x1 x2 x3 5) (upto_4 c arg2 harg2 arg3 harg3 arg4 harg4 arg6 arg7 x1 x2 x3))

/-- The accumulator the body holds after chunk 6. -/
theorem upto_6 : sl.r_198 c arg2 harg2 arg3 harg3 arg4 harg4 arg6 arg7 x1 x2 x3 = upto c arg2 harg2 arg3 harg3 arg4 harg4 arg6 arg7 x1 x2 x3 7 := (acc_6 c arg2 harg2 arg3 harg3 arg4 harg4 arg6 arg7 x1 x2 x3).trans (congrArg (stepAt c arg2 harg2 arg3 harg3 arg4 harg4 arg6 arg7 x1 x2 x3 6) (upto_5 c arg2 harg2 arg3 harg3 arg4 harg4 arg6 arg7 x1 x2 x3))

/-- The accumulator the body holds after chunk 7. -/
theorem upto_7 : sl.r_217 c arg2 harg2 arg3 harg3 arg4 harg4 arg6 arg7 x1 x2 x3 = upto c arg2 harg2 arg3 harg3 arg4 harg4 arg6 arg7 x1 x2 x3 8 := (acc_7 c arg2 harg2 arg3 harg3 arg4 harg4 arg6 arg7 x1 x2 x3).trans (congrArg (stepAt c arg2 harg2 arg3 harg3 arg4 harg4 arg6 arg7 x1 x2 x3 7) (upto_6 c arg2 harg2 arg3 harg3 arg4 harg4 arg6 arg7 x1 x2 x3))

/-- The accumulator the body holds after chunk 8. -/
theorem upto_8 : sl.r_235 c arg2 harg2 arg3 harg3 arg4 harg4 arg6 arg7 x1 x2 x3 = upto c arg2 harg2 arg3 harg3 arg4 harg4 arg6 arg7 x1 x2 x3 9 := (acc_8 c arg2 harg2 arg3 harg3 arg4 harg4 arg6 arg7 x1 x2 x3).trans (congrArg (stepAt c arg2 harg2 arg3 harg3 arg4 harg4 arg6 arg7 x1 x2 x3 8) (upto_7 c arg2 harg2 arg3 harg3 arg4 harg4 arg6 arg7 x1 x2 x3))

/-- The accumulator the body holds after chunk 9. -/
theorem upto_9 : sl.r_256 c arg2 harg2 arg3 harg3 arg4 harg4 arg6 arg7 x1 x2 x3 = upto c arg2 harg2 arg3 harg3 arg4 harg4 arg6 arg7 x1 x2 x3 10 := (acc_9 c arg2 harg2 arg3 harg3 arg4 harg4 arg6 arg7 x1 x2 x3).trans (congrArg (stepAt c arg2 harg2 arg3 harg3 arg4 harg4 arg6 arg7 x1 x2 x3 9) (upto_8 c arg2 harg2 arg3 harg3 arg4 harg4 arg6 arg7 x1 x2 x3))

/-- The accumulator the body holds after chunk 10. -/
theorem upto_10 : sl.r_275 c arg2 harg2 arg3 harg3 arg4 harg4 arg6 arg7 x1 x2 x3 = upto c arg2 harg2 arg3 harg3 arg4 harg4 arg6 arg7 x1 x2 x3 11 := (acc_10 c arg2 harg2 arg3 harg3 arg4 harg4 arg6 arg7 x1 x2 x3).trans (congrArg (stepAt c arg2 harg2 arg3 harg3 arg4 harg4 arg6 arg7 x1 x2 x3 10) (upto_9 c arg2 harg2 arg3 harg3 arg4 harg4 arg6 arg7 x1 x2 x3))

/-- The accumulator the body holds after chunk 11. -/
theorem upto_11 : sl.r_295 c arg2 harg2 arg3 harg3 arg4 harg4 arg6 arg7 x1 x2 x3 = upto c arg2 harg2 arg3 harg3 arg4 harg4 arg6 arg7 x1 x2 x3 12 := (acc_11 c arg2 harg2 arg3 harg3 arg4 harg4 arg6 arg7 x1 x2 x3).trans (congrArg (stepAt c arg2 harg2 arg3 harg3 arg4 harg4 arg6 arg7 x1 x2 x3 11) (upto_10 c arg2 harg2 arg3 harg3 arg4 harg4 arg6 arg7 x1 x2 x3))

/-- The accumulator the body holds after chunk 12. -/
theorem upto_12 : sl.r_312 c arg2 harg2 arg3 harg3 arg4 harg4 arg6 arg7 x1 x2 x3 = upto c arg2 harg2 arg3 harg3 arg4 harg4 arg6 arg7 x1 x2 x3 13 := (acc_12 c arg2 harg2 arg3 harg3 arg4 harg4 arg6 arg7 x1 x2 x3).trans (congrArg (stepAt c arg2 harg2 arg3 harg3 arg4 harg4 arg6 arg7 x1 x2 x3 12) (upto_11 c arg2 harg2 arg3 harg3 arg4 harg4 arg6 arg7 x1 x2 x3))

/-- The accumulator the body holds after chunk 13. -/
theorem upto_13 : sl.r_335 c arg2 harg2 arg3 harg3 arg4 harg4 arg6 arg7 x1 x2 x3 = upto c arg2 harg2 arg3 harg3 arg4 harg4 arg6 arg7 x1 x2 x3 14 := (acc_13 c arg2 harg2 arg3 harg3 arg4 harg4 arg6 arg7 x1 x2 x3).trans (congrArg (stepAt c arg2 harg2 arg3 harg3 arg4 harg4 arg6 arg7 x1 x2 x3 13) (upto_12 c arg2 harg2 arg3 harg3 arg4 harg4 arg6 arg7 x1 x2 x3))

/-- The accumulator the body holds after chunk 14. -/
theorem upto_14 : sl.r_352 c arg2 harg2 arg3 harg3 arg4 harg4 arg6 arg7 x1 x2 x3 = upto c arg2 harg2 arg3 harg3 arg4 harg4 arg6 arg7 x1 x2 x3 15 := (acc_14 c arg2 harg2 arg3 harg3 arg4 harg4 arg6 arg7 x1 x2 x3).trans (congrArg (stepAt c arg2 harg2 arg3 harg3 arg4 harg4 arg6 arg7 x1 x2 x3 14) (upto_13 c arg2 harg2 arg3 harg3 arg4 harg4 arg6 arg7 x1 x2 x3))

/-- The accumulator the body holds after chunk 15. -/
theorem upto_15 : sl.r_375 c arg2 harg2 arg3 harg3 arg4 harg4 arg6 arg7 x1 x2 x3 = upto c arg2 harg2 arg3 harg3 arg4 harg4 arg6 arg7 x1 x2 x3 16 := (acc_15 c arg2 harg2 arg3 harg3 arg4 harg4 arg6 arg7 x1 x2 x3).trans (congrArg (stepAt c arg2 harg2 arg3 harg3 arg4 harg4 arg6 arg7 x1 x2 x3 15) (upto_14 c arg2 harg2 arg3 harg3 arg4 harg4 arg6 arg7 x1 x2 x3))

/-- The accumulator the body holds after chunk 16. -/
theorem upto_16 : sl.r_394 c arg2 harg2 arg3 harg3 arg4 harg4 arg6 arg7 x1 x2 x3 = upto c arg2 harg2 arg3 harg3 arg4 harg4 arg6 arg7 x1 x2 x3 17 := (acc_16 c arg2 harg2 arg3 harg3 arg4 harg4 arg6 arg7 x1 x2 x3).trans (congrArg (stepAt c arg2 harg2 arg3 harg3 arg4 harg4 arg6 arg7 x1 x2 x3 16) (upto_15 c arg2 harg2 arg3 harg3 arg4 harg4 arg6 arg7 x1 x2 x3))

/-- The accumulator the body holds after chunk 17. -/
theorem upto_17 : sl.r_413 c arg2 harg2 arg3 harg3 arg4 harg4 arg6 arg7 x1 x2 x3 = upto c arg2 harg2 arg3 harg3 arg4 harg4 arg6 arg7 x1 x2 x3 18 := (acc_17 c arg2 harg2 arg3 harg3 arg4 harg4 arg6 arg7 x1 x2 x3).trans (congrArg (stepAt c arg2 harg2 arg3 harg3 arg4 harg4 arg6 arg7 x1 x2 x3 17) (upto_16 c arg2 harg2 arg3 harg3 arg4 harg4 arg6 arg7 x1 x2 x3))

/-- The accumulator the body holds after chunk 18. -/
theorem upto_18 : sl.r_431 c arg2 harg2 arg3 harg3 arg4 harg4 arg6 arg7 x1 x2 x3 = upto c arg2 harg2 arg3 harg3 arg4 harg4 arg6 arg7 x1 x2 x3 19 := (acc_18 c arg2 harg2 arg3 harg3 arg4 harg4 arg6 arg7 x1 x2 x3).trans (congrArg (stepAt c arg2 harg2 arg3 harg3 arg4 harg4 arg6 arg7 x1 x2 x3 18) (upto_17 c arg2 harg2 arg3 harg3 arg4 harg4 arg6 arg7 x1 x2 x3))

/-- The product the body stores, sixteen rows of it. -/
def prod : FVec F S16x256 .f32 := mulf (upto c arg2 harg2 arg3 harg3 arg4 harg4 arg6 arg7 x1 x2 x3 20) (broadcast S16x256 (sl.r c arg1 harg1 x0))

/-- The body's product is the accumulator after all chunks times the global scale. -/
theorem prod_eq : sl.r_452 c arg1 harg1 arg2 harg2 arg3 harg3 arg4 harg4 arg6 arg7 x0 x1 x2 x3 = prod c arg1 harg1 arg2 harg2 arg3 harg3 arg4 harg4 arg6 arg7 x0 x1 x2 x3 :=
  (acc_19 c arg1 harg1 arg2 harg2 arg3 harg3 arg4 harg4 arg6 arg7 x0 x1 x2 x3).trans (congrArg (fun z => mulf (stepAt c arg2 harg2 arg3 harg3 arg4 harg4 arg6 arg7 x1 x2 x3 19 z) (broadcast S16x256 (sl.r c arg1 harg1 x0))) (upto_18 c arg2 harg2 arg3 harg3 arg4 harg4 arg6 arg7 x1 x2 x3))

/-- What a product becomes in the output block: its lanes 0 … and 128 …, each interleaved. -/
def outPieces (R : FVec F S16x256 .f32) : List (View.Piece (Elt F) S8x512 EltTy.bf16) :=
  [⟨Rect.unit (s := S8x512) ![0, 256] S8x256.size inb_S8x512_S8x256_0_256,
      interleaved (extractStridedSlice S8x128 ![0, 128] R slices_S16x256_o0_128_S8x128) (extractStridedSlice S8x128 ![8, 128] R slices_S16x256_o8_128_S8x128)⟩,
   ⟨Rect.unit (s := S8x512) ![0, 0] S8x256.size inb_S8x512_S8x256_0_0,
      interleaved (extractStridedSlice S8x128 ![0, 0] R slices_S16x256_o0_0_S8x128) (extractStridedSlice S8x128 ![8, 0] R slices_S16x256_o8_0_S8x128)⟩]

/-- The body leaves the output block holding those pieces. -/
theorem pieces (i : grid0.Coords) : (kernelRun0_A c i arg1 harg1 arg2 harg2 arg3 harg3 arg4 harg4 arg5 harg5 arg6 harg6 arg7 harg7 x0 x1 x2 x3).1
    = outPieces (prod c arg1 harg1 arg2 harg2 arg3 harg3 arg4 harg4 arg6 arg7 x0 x1 x2 x3) := by
  rw [← prod_eq]; rfl

end

end Cert.KI.Body
-- ==== Proof.Point.lean ====
/- The kernel's vocabulary (`Cert.KI.Body`) read at an index, over the extended reals. -/
module

public import proofs.«01_k».proof.Proof.Body
public import Idealize.ShloMosaic.Lib.Pointwise
public import Idealize.ShloMosaic.Lib.BitcastPair
public import Idealize.ShloMosaic.Lib.Pointwise.IndexVar

@[expose] public section

set_option maxRecDepth 65536

noncomputable section

namespace Cert.KI.Point

open Cert.KI Cert.KI.Gen Cert.KI.Body Idealize.ShloMosaic Idealize.ShloMosaic.TcCoe

/-- Lanes below 64. -/
theorem low_apply : ∀ (r : Fin 32) (l : Fin 128), k0_pay2 (ix2 r l) = if l.val < 64 then 1#1 else 0#1 := by
  have h : ∀ (l : Fin 128), IntOp.cmpi .slt (BitVec.ofNat 32 l.val) 64#32 = if l.val < 64 then 1#1 else 0#1 := by decide +kernel
  intro r l
  rw [← h]
  pointwise [k0_pay2]

/-- The lane the first permutation names. -/
def laneA (l : Fin 128) : Fin 128 := if h : l.val < 64 then ⟨2 * l.val, by omega⟩ else ⟨2 * l.val - 128 + 1, by omega⟩
/-- The lane the second permutation names. -/
def laneB (l : Fin 128) : Fin 128 := if h : l.val < 64 then ⟨2 * l.val + 1, by omega⟩ else ⟨2 * l.val - 128, by omega⟩

/-- The first permutation is the same in every row. -/
theorem perm_row (r : Fin 32) (l : Fin 128) : k0_pay4 (ix2 r l) = k0_pay4 (ix2 0 l) := by
  pointwise [k0_pay4, k0_pay3, k0_pay2]
/-- The second permutation is the same in every row. -/
theorem perm_row' (r : Fin 32) (l : Fin 128) : k0_pay5 (ix2 r l) = k0_pay5 (ix2 0 l) := by
  pointwise [k0_pay5, k0_pay3, k0_pay2]

/-- The first permutation, its negative lanes wrapped (there are none). -/
theorem permA_apply (r : Fin 32) (l : Fin 128) : k0_pay4 (ix2 r l) = BitVec.ofNat 32 (laneA l).val := by
  rw [perm_row]
  revert l
  decide +kernel
/-- The second permutation names the lane laneB. -/
theorem permB_apply (r : Fin 32) (l : Fin 128) : k0_pay5 (ix2 r l) = BitVec.ofNat 32 (laneB l).val := by
  rw [perm_row']
  revert l
  decide +kernel

/-- A lane number is not negative, so it is its own index. -/
theorem wrap_lane : ∀ l : Fin 128, (Scalar.select (IntOp.cmpi .slt (BitVec.ofNat 32 l.val) 0#32)
    (IntOp.addi (BitVec.ofNat 32 l.val) 128#32) (BitVec.ofNat 32 l.val)).toNat % 128 = l.val := by decide +kernel

/-- A select on a decided bit is an if. -/
theorem sel_ite {α : Type} (c : Prop) [Decidable c] (x y : α) : Scalar.select (if c then 1#1 else 0#1) x y = if c then x else y := by
  by_cases h : c <;> simp [h, Scalar.select]

/-- An even piece: scale rows 2 r, and lane l of word half p is column 2 l + p of the two tiles side by side. -/
theorem evenPiece_apply (a b : Vec Ideal S32x128 .fp8e4m3) (r : Fin 16) (p : Fin 2) (l : Fin 128) :
    evenPiece a b (ix3 r p l) = if h : l.val < 64 then a (ix2 ⟨2 * r.val, by omega⟩ ⟨2 * l.val + p.val, by omega⟩)
      else b (ix2 ⟨2 * r.val, by omega⟩ ⟨2 * l.val + p.val - 128, by omega⟩) := by
  pointwise [evenPiece, k0_pay100, k0_pay96, k0_pay98, k0_pay94, k0_pay95]
  simp only [low_apply, permA_apply, permB_apply, wrap_lane, sel_ite]
  have hl := l.isLt
  split_ifs <;> first
    | (exfalso; omega)
    | (refine congrArg _ (congrArg _ (Fin.ext ?_)); simp only [laneA, laneB]; split <;> simp only [] <;> omega)

/-- An odd piece: scale rows 2 r + 1, likewise. -/
theorem oddPiece_apply (a b : Vec Ideal S32x128 .fp8e4m3) (r : Fin 16) (p : Fin 2) (l : Fin 128) :
    oddPiece a b (ix3 r p l) = if h : l.val < 64 then a (ix2 ⟨2 * r.val + 1, by omega⟩ ⟨2 * l.val + p.val, by omega⟩)
      else b (ix2 ⟨2 * r.val + 1, by omega⟩ ⟨2 * l.val + p.val - 128, by omega⟩) := by
  pointwise [oddPiece, k0_pay101, k0_pay97, k0_pay99, k0_pay96, k0_pay98, k0_pay94, k0_pay95]
  simp only [low_apply, permA_apply, permB_apply, wrap_lane, sel_ite]
  have hl := l.isLt
  split_ifs <;> first
    | (exfalso; omega)
    | (refine congrArg _ (congrArg _ (Fin.ext ?_)); simp only [laneA, laneB]; split <;> simp only [] <;> omega)

/-- Block i at row r: the decoded row 32 i + r times scale row r mod 2. -/
theorem block_apply (i : Fin 16) (vals : FVec Ideal S512x256 .bf16) (raw : Vec Ideal S1x2x256 .bf16) (r : Fin 32) (n : Fin 256) :
    block i vals raw (ix2 r n) = vals (ix2 ⟨32 * i.val + r.val, by omega⟩ n) * raw (ix3 0 ⟨r.val % 2, by omega⟩ n) := by
  pointwise [block]
  rcases Nat.mod_two_eq_zero_or_one r.val with h | h <;> simp [h]

/-- The mask of the even lanes. -/
theorem lane_even : ∀ l : Fin 128, IntOp.cmpi .eq (IntOp.andi (BitVec.ofNat 32 l.val) 1#32) 0#32 = if l.val % 2 = 0 then 1#1 else 0#1 := by
  decide +kernel
/-- The source lane of an interleaved lane below 128. -/
theorem lane_half0 : ∀ l : Fin 128, (Scalar.select
    (IntOp.cmpi .slt (IntOp.addi (IntOp.shrsi .vector (BitVec.ofNat 32 l.val) 1#32) 0#32) 0#32)
    (IntOp.addi (IntOp.addi (IntOp.shrsi .vector (BitVec.ofNat 32 l.val) 1#32) 0#32) 128#32)
    (IntOp.addi (IntOp.shrsi .vector (BitVec.ofNat 32 l.val) 1#32) 0#32)).toNat % 128 = l.val / 2 := by
  decide +kernel
/-- The source lane of an interleaved lane from 128 on. -/
theorem lane_half1 : ∀ l : Fin 128, (Scalar.select
    (IntOp.cmpi .slt (IntOp.addi (IntOp.shrsi .vector (BitVec.ofNat 32 l.val) 1#32) 64#32) 0#32)
    (IntOp.addi (IntOp.addi (IntOp.shrsi .vector (BitVec.ofNat 32 l.val) 1#32) 64#32) 128#32)
    (IntOp.addi (IntOp.shrsi .vector (BitVec.ofNat 32 l.val) 1#32) 64#32)).toNat % 128 = l.val / 2 + 64 := by
  decide +kernel

/-- Where a lane of the interleaved halves comes from. -/
theorem interleaved_apply (a b : FVec Ideal S8x128 .f32) (r : Fin 8) (l : Fin 256) :
    interleaved a b (ix2 r l) = if l.val % 2 = 0 then a (ix2 r ⟨l.val / 2, by omega⟩) else b (ix2 r ⟨l.val / 2, by omega⟩) := by
  unfold interleaved; unfold_payloads
  pointwise
  have hl := l.isLt
  by_cases h : l.val < 128
  · have h1 := lane_even ⟨l.val, h⟩
    have h2 := lane_half0 ⟨l.val, h⟩
    simp only at h1 h2
    simp only [h, dif_pos, h1, h2, sel_ite]
  · have h1 := lane_even ⟨l.val - 128, by omega⟩
    have h2 := lane_half1 ⟨l.val - 128, by omega⟩
    have e : (l.val - 128) % 2 = l.val % 2 := by omega
    have e2 : (l.val - 128) / 2 + 64 = l.val / 2 := by omega
    simp only [e, e2] at h1 h2
    simp only [h, dif_neg, not_false_eq_true, h1, h2, sel_ite]

/-- The low 16-bit pattern of a nibble of a packed word. -/
def pat32 (p : BitVec 32) : BitVec 32 :=
  IntOp.ori
    (Scalar.select (IntOp.cmpi .sge (IntOp.andi p 7#32) 2#32)
      (IntOp.addi (IntOp.shli .vector (IntOp.andi p 7#32) 6#32) 16128#32) (IntOp.muli (IntOp.andi p 7#32) 16128#32))
    (IntOp.shli .vector (IntOp.andi p 8#32) 12#32)

/-- The pattern of nibble p of the byte w. -/
def pat (w : BitVec 8) (p : ℕ) : BitVec 16 := (pat32 (IntOp.shrsi .vector (w.setWidth 32) (BitVec.ofNat 32 (4 * p)))).setWidth 16

/-- A half of the word built from a byte is the pattern of that nibble. -/
theorem halves : ∀ w : BitVec 8, ∀ p : Fin 2,
    (IntOp.ori (pat32 (w.setWidth 32)) (IntOp.shli .vector (pat32 (IntOp.shrsi .vector (w.setWidth 32) 4#32)) 16#32)).extractLsb' (16 * p.val) 16
      = pat w p.val := by decide +kernel

/-- Row k of the decoded weights is nibble k % 2 of byte row k / 2. -/
theorem decode_apply (w : Vec Ideal S256x256 .i8) (k : Fin 512) (n : Fin 256) :
    decode w (ix2 k n) = Ideal.ofBits .bf16 (pat (w (ix2 ⟨k.val / 2, by omega⟩ n)) (k.val % 2)) := by
  unfold decode; unfold_payloads
  pointwise
  rw [bitcast_32_16]
  have hrow : Shape.row S512x256 (ix2 k n) = k.val := rfl
  have hsrc : ∀ h, (bitcasts_S256x256_w32_S512x256_w16).srcIdx (ix2 k n) (Shape.row S512x256 (ix2 k n) / 2) h = ix2 ⟨k.val / 2, by omega⟩ n := by
    intro h
    funext a
    fin_cases a <;> rfl
  rw [hsrc]
  pointwise
  rw [← halves _ ⟨k.val % 2, by omega⟩]
  rfl

section
variable {α : Type} {s t : Shape}
/-- A concatenation of pieces of one size m reads piece k at position m k + c. -/
theorem concatenateAt_uniform (a : Fin t.rank) (j : t.Idx) (m : ℕ) (hr : s.rank = t.rank) (hm : s.size (a.cast hr.symm) = m) :
    ∀ (fs : List (s.Idx → α)) (hs : ∀ s' ∈ (fs.map (fun f => (⟨s, f⟩ : (s : Shape) × (s.Idx → α)))).map (·.1), s'.FitsOff t a)
      (k : ℕ) (hk : k < fs.length) (c c' : ℕ) (hc' : c' = m * k + c) (hcm : c < m) (y : s.Idx)
      (hy : ∀ b, (y b).val = if b.val = a.val then c else (j (b.cast hr)).val) (hc),
      concatenateAt t a j (fs.map (fun f => ⟨s, f⟩)) hs c' hc = fs[k] y
  | [], _, k, hk => absurd hk (Nat.not_lt_zero _)
  | [f], hs, k, hk => by
    intro c c' hc' hcm y hy hc
    obtain rfl : k = 0 := by simpa using hk
    refine (concatenateAt_singleton a j f hs c' hc).trans ?_
    rw [Shape.Idx.norm_def]
    refine congrArg f (funext fun b => Fin.ext ?_)
    rw [hy]; simp [hc']
  | f :: g :: fs, hs, k, hk => by
    intro c c' hc' hcm y hy hc
    refine (concatenateAt_cons a j f _ _ hs c' hc).trans ?_
    match k with
    | 0 =>
      rw [dif_pos (by rw [hm]; omega), Shape.Idx.norm_def]
      refine congrArg f (funext fun b => Fin.ext ?_)
      rw [hy]; simp [hc']
    | k + 1 =>
      rw [dif_neg (by rw [hm, hc', Nat.mul_succ]; omega)]
      exact concatenateAt_uniform a j m hr hm (g :: fs) _ k (by simpa using hk) c _ (by rw [hm, hc', Nat.mul_succ]; omega) hcm y hy _
end

/-- The sixteen blocks, one under the other, at row 32 i + r. -/
theorem conc_apply (f : Fin 16 → FVec Ideal S32x256 .bf16) (i : Fin 16) (r : Fin 32) (n : Fin 256) :
    concatenate S512x256 0 [⟨S32x256, f 0⟩, ⟨S32x256, f 1⟩, ⟨S32x256, f 2⟩, ⟨S32x256, f 3⟩, ⟨S32x256, f 4⟩, ⟨S32x256, f 5⟩, ⟨S32x256, f 6⟩, ⟨S32x256, f 7⟩, ⟨S32x256, f 8⟩, ⟨S32x256, f 9⟩, ⟨S32x256, f 10⟩, ⟨S32x256, f 11⟩, ⟨S32x256, f 12⟩, ⟨S32x256, f 13⟩, ⟨S32x256, f 14⟩, ⟨S32x256, f 15⟩]
    concatenates_S32x256_S32x256_S32x256_S32x256_S32x256_S32x256_S32x256_S32x256_S32x256_S32x256_S32x256_S32x256_S32x256_S32x256_S32x256_S32x256_S512x256_d0
     (ix2 ⟨32 * i.val + r.val, by omega⟩ n) = f i (ix2 r n) := by
  rw [concatenate_apply]
  refine (concatenateAt_uniform (s := S32x256) (t := S512x256) 0 _ 32 rfl rfl
    [f 0, f 1, f 2, f 3, f 4, f 5, f 6, f 7, f 8, f 9, f 10, f 11, f 12, f 13, f 14, f 15] _ i.val (by simp) r.val _ rfl r.isLt (ix2 r n) ?_ _).trans ?_
  · intro b; fin_cases b <;> rfl
  · fin_cases i <;> rfl

/-- One chunk of the accumulation, entrywise. -/
theorem step_apply (acc : FVec Ideal S16x256 .f32) (vals : FVec Ideal S512x256 .bf16) (raws : Fin 16 → Vec Ideal S1x2x256 .bf16)
    (xs : Vec Ideal S16x512 .bf16) (r : Fin 16) (n : Fin 256) : step acc vals raws xs (ix2 r n) =
     acc (ix2 r n) + ∑ q : Fin 512, xs (ix2 r q) * (vals (ix2 q n) * raws ⟨q.val / 32, by omega⟩ (ix3 0 ⟨q.val % 2, by omega⟩ n)) := by
  have key : ∀ (C : FVec Ideal S512x256 .bf16), addf acc (matmul dot_S16x512_S512x256_S16x256_1_0_0_1_n_n none (shapeCast S16x512 xs shapeCasts_S16x512_S16x512 : FVec Ideal S16x512 .bf16)
     C (constant S16x256 .f32 0x00000000#32)) (ix2 r n) = acc (ix2 r n) + ∑ q : Fin 512, xs (ix2 r q) * C (ix2 q n) := by
    intro C
    pointwise
  unfold step
  rw [key]
  refine congrArg _ (Finset.sum_congr rfl fun q _ => congrArg _ ?_)
  have e : (ix2 q n : S512x256.Idx) = ix2 ⟨32 * (⟨q.val / 32, by omega⟩ : Fin 16).val + (⟨q.val % 32, by omega⟩ : Fin 32).val, by show 32 * (q.val / 32) + q.val % 32 < 512; omega⟩ n := by
    congr 1; apply Fin.ext; show q.val = 32 * (q.val / 32) + q.val % 32; omega
  rw [e, conc_apply (fun i => block i vals (raws i)), block_apply, ← e]
  have e2 : q.val % 32 % 2 = q.val % 2 := by omega
  simp only [e2]

end Cert.KI.Point
-- ==== Proof.Scales.lean ====
/- The body's loads read at an index, over the extended reals: the scales it prepares in the two scratch buffers, the
   weights and the activations of a chunk. -/
module

public import proofs.«01_k».proof.Proof.Point
public import Idealize.ShloMosaic.Lib.Pipeline.ValueKit

@[expose] public section

set_option maxRecDepth 65536

noncomputable section

namespace Cert.KI.Scales

open Cert.KI.Body Cert.KI.Point
open Cert.KI Cert.KI.Gen Cert.KI.Gen.kernelRun0_A Idealize.ShloMosaic Idealize.ShloMosaic.TcCoe

section
variable (c : Dev nD)
  (arg2 : Memref sig Kind.tc Space.vmem S16x10240 EltTy.bf16) (harg2 : arg2.IsWhole)
  (arg3 : Memref sig Kind.tc Space.vmem S5120x256 EltTy.i8) (harg3 : arg3.IsWhole)
  (arg4 : Memref sig Kind.tc Space.vmem S320x512 EltTy.fp8e4m3) (harg4 : arg4.IsWhole)
  (arg6 : Memref sig Kind.tc Space.vmem S160x2x256 EltTy.bf16)
  (arg7 : Memref sig Kind.tc Space.vmem S160x2x256 EltTy.bf16)
  (x1 : Vec Ideal S16x10240 .bf16) (x2 : Vec Ideal S5120x256 .i8) (x3 : Vec Ideal S320x512 .fp8e4m3)

/-- A tile of the scales at row r and lane l. -/
theorem tile_apply (g : Fin 10) (u : Fin 4) (r : Fin 32) (l : Fin 128) :
    tile arg4 harg4 x3 g u (ix2 r l) = x3 (ix2 ⟨32 * g.val + r.val, by omega⟩ ⟨128 * u.val + l.val, by omega⟩) := by
  unfold tile
  rw [View.readAt_eq_ld, Memref.IsWhole.read_unread]
  exact View.ld_unit_apply_of _ _ _ _ _ _ (by intro a; fin_cases a <;> rfl)

/-- The weights of chunk k at row r. -/
theorem ws_apply (k : Fin 20) (r : Fin 256) (n : Fin 256) :
    ws arg3 harg3 x2 k (ix2 r n) = x2 (ix2 ⟨256 * k.val + r.val, by omega⟩ n) := by
  unfold ws
  rw [View.readAt_eq_ld, Memref.IsWhole.read_unread]
  exact View.ld_unit_apply_of _ _ _ _ _ _ (by intro a; fin_cases a <;> first | rfl | exact (Nat.zero_add _).symm)

/-- The activations of chunk k at column q. -/
theorem xs_apply (k : Fin 20) (r : Fin 16) (q : Fin 512) :
    xs arg2 harg2 x1 k (ix2 r q) = x1 (ix2 r ⟨512 * k.val + q.val, by omega⟩) := by
  unfold xs
  rw [View.readAt_eq_ld, Memref.IsWhole.read_unread]
  exact View.ld_unit_apply_of _ _ _ _ _ _ (by intro a; fin_cases a <;> first | rfl | exact (Nat.zero_add _).symm)

/-- The even scale rows, spread over the two output columns of a lane. -/
def evens (x3 : Vec Ideal S320x512 .fp8e4m3) : Vec Ideal S160x2x256 .bf16 := fun y =>
  x3 (ix2 (⟨2 * (y 0).val, by have : (y 0).val < 160 := (y 0).isLt; omega⟩ : Fin 320)
    (⟨2 * (y 2).val + (y 1).val, by have : (y 2).val < 256 := (y 2).isLt; have : (y 1).val < 2 := (y 1).isLt; omega⟩ : Fin 512))

/-- The odd scale rows, likewise. -/
def odds (x3 : Vec Ideal S320x512 .fp8e4m3) : Vec Ideal S160x2x256 .bf16 := fun y =>
  x3 (ix2 (⟨2 * (y 0).val + 1, by have : (y 0).val < 160 := (y 0).isLt; omega⟩ : Fin 320)
    (⟨2 * (y 2).val + (y 1).val, by have : (y 2).val < 256 := (y 2).isLt; have : (y 1).val < 2 := (y 1).isLt; omega⟩ : Fin 512))

/-- An index of a piece is its three coordinates. -/
theorem eta3 (x : S16x2x128.Idx) : ∃ (r : Fin 16) (p : Fin 2) (l : Fin 128), x = ix3 r p l :=
  ⟨x 0, x 1, x 2, by funext a; fin_cases a <;> rfl⟩

/-- A piece of the even rows' buffer writes the even rows. -/
theorem pieceE_apply (g : Fin 10) (h : Fin 2) (x : S16x2x128.Idx) :
    (pieceE arg4 harg4 x3 g h).2 x = evens x3 ((pieceE arg4 harg4 x3 g h).1.emb x) := by
  obtain ⟨r, p, l, rfl⟩ := eta3 x
  show evenPiece _ _ (ix3 r p l) = _
  rw [evenPiece_apply]
  split
  · rw [tile_apply]
    refine congrArg x3 (congrArg₂ ix2 (Fin.ext ?_) (Fin.ext ?_))
    · show 32 * g.val + 2 * r.val = 2 * (16 * g.val + 1 * r.val); omega
    · show 128 * (2 * h.val) + (2 * l.val + p.val) = 2 * (128 * h.val + 1 * l.val) + (0 + 1 * p.val); omega
  · rw [tile_apply]
    refine congrArg x3 (congrArg₂ ix2 (Fin.ext ?_) (Fin.ext ?_))
    · show 32 * g.val + 2 * r.val = 2 * (16 * g.val + 1 * r.val); omega
    · show 128 * (2 * h.val + 1) + (2 * l.val + p.val - 128) = 2 * (128 * h.val + 1 * l.val) + (0 + 1 * p.val); omega

/-- A piece of the odd rows' buffer writes the odd rows. -/
theorem pieceO_apply (g : Fin 10) (h : Fin 2) (x : S16x2x128.Idx) :
    (pieceO arg4 harg4 x3 g h).2 x = odds x3 ((pieceO arg4 harg4 x3 g h).1.emb x) := by
  obtain ⟨r, p, l, rfl⟩ := eta3 x
  show oddPiece _ _ (ix3 r p l) = _
  rw [oddPiece_apply]
  split
  · rw [tile_apply]
    refine congrArg x3 (congrArg₂ ix2 (Fin.ext ?_) (Fin.ext ?_))
    · show 32 * g.val + (2 * r.val + 1) = 2 * (16 * g.val + 1 * r.val) + 1; omega
    · show 128 * (2 * h.val) + (2 * l.val + p.val) = 2 * (128 * h.val + 1 * l.val) + (0 + 1 * p.val); omega
  · rw [tile_apply]
    refine congrArg x3 (congrArg₂ ix2 (Fin.ext ?_) (Fin.ext ?_))
    · show 32 * g.val + (2 * r.val + 1) = 2 * (16 * g.val + 1 * r.val) + 1; omega
    · show 128 * (2 * h.val + 1) + (2 * l.val + p.val - 128) = 2 * (128 * h.val + 1 * l.val) + (0 + 1 * p.val); omega

/-- The twenty piece positions, last first. -/
def places : List (Fin 10 × Fin 2) :=
  [(9, 1), (9, 0), (8, 1), (8, 0), (7, 1), (7, 0), (6, 1), (6, 0), (5, 1), (5, 0), (4, 1), (4, 0), (3, 1), (3, 0), (2, 1), (2, 0), (1, 1), (1, 0), (0, 1), (0, 0)]

/-- Every position occurs. -/
theorem mem_places : ∀ (g : Fin 10) (h : Fin 2), (g, h) ∈ places := by decide +kernel

/-- The even buffer's pieces, position by position. -/
theorem HS0_map : sl.HS0_20 c arg4 harg4 x3 = places.map fun z => pieceE arg4 harg4 x3 z.1 z.2 := HS0_eq c arg4 harg4 x3
/-- The odd buffer's pieces, position by position. -/
theorem HS1_map : sl.HS1_20 c arg4 harg4 x3 = places.map fun z => pieceO arg4 harg4 x3 z.1 z.2 := HS1_eq c arg4 harg4 x3

/-- The even rows' buffer holds the even rows. -/
theorem canonE (y : S160x2x256.Idx) : View.canon (sl.HS0_20 c arg4 harg4 x3) y = evens x3 y := by
  have h0 : (y 0).val < 160 := (y 0).isLt
  have h1 : (y 1).val < 2 := (y 1).isLt
  have h2 : (y 2).val < 256 := (y 2).isLt
  refine View.canon_apply_of_pieces (evens x3) _ ?_ y ?_
  · intro p hp
    rw [HS0_map] at hp
    obtain ⟨z, -, rfl⟩ := List.mem_map.1 hp
    exact pieceE_apply arg4 harg4 x3 z.1 z.2
  · refine ⟨pieceE arg4 harg4 x3 ⟨(y 0).val / 16, by omega⟩ ⟨(y 2).val / 128, by omega⟩, ?_, ?_⟩
    · rw [HS0_map]; exact List.mem_map.2 ⟨(⟨(y 0).val / 16, by omega⟩, ⟨(y 2).val / 128, by omega⟩), mem_places _ _, rfl⟩
    · refine (Rect.mem_set_unit (inb := inbP _ _)).2 ?_
      intro a
      fin_cases a
      · show 16 * ((y 0).val / 16) ≤ (y 0).val ∧ (y 0).val < 16 * ((y 0).val / 16) + 16; omega
      · show 0 ≤ (y 1).val ∧ (y 1).val < 0 + 2; omega
      · show 128 * ((y 2).val / 128) ≤ (y 2).val ∧ (y 2).val < 128 * ((y 2).val / 128) + 128; omega

/-- The odd rows' buffer holds the odd rows. -/
theorem canonO (y : S160x2x256.Idx) : View.canon (sl.HS1_20 c arg4 harg4 x3) y = odds x3 y := by
  have h0 : (y 0).val < 160 := (y 0).isLt
  have h1 : (y 1).val < 2 := (y 1).isLt
  have h2 : (y 2).val < 256 := (y 2).isLt
  refine View.canon_apply_of_pieces (odds x3) _ ?_ y ?_
  · intro p hp
    rw [HS1_map] at hp
    obtain ⟨z, -, rfl⟩ := List.mem_map.1 hp
    exact pieceO_apply arg4 harg4 x3 z.1 z.2
  · refine ⟨pieceO arg4 harg4 x3 ⟨(y 0).val / 16, by omega⟩ ⟨(y 2).val / 128, by omega⟩, ?_, ?_⟩
    · rw [HS1_map]; exact List.mem_map.2 ⟨(⟨(y 0).val / 16, by omega⟩, ⟨(y 2).val / 128, by omega⟩), mem_places _ _, rfl⟩
    · refine (Rect.mem_set_unit (inb := inbP _ _)).2 ?_
      intro a
      fin_cases a
      · show 16 * ((y 0).val / 16) ≤ (y 0).val ∧ (y 0).val < 16 * ((y 0).val / 16) + 16; omega
      · show 0 ≤ (y 1).val ∧ (y 1).val < 0 + 2; omega
      · show 128 * ((y 2).val / 128) ≤ (y 2).val ∧ (y 2).val < 128 * ((y 2).val / 128) + 128; omega

/-- Row j of the even rows' buffer is scale row 2 j. -/
theorem rowE_apply (j : Fin 160) (p : Fin 2) (n : Fin 256) :
    rowE c arg4 harg4 arg6 x3 j (ix3 0 p n) = x3 (ix2 ⟨2 * j.val, by omega⟩ ⟨2 * n.val + p.val, by omega⟩) := by
  unfold rowE
  rw [View.readCov_eq_canon']
  refine (canonE c arg4 harg4 x3 _).trans ?_
  refine congrArg x3 (congrArg₂ ix2 (Fin.ext ?_) (Fin.ext ?_))
  · show 2 * (j.val + 1 * 0) = 2 * j.val; omega
  · show 2 * (0 + 1 * n.val) + (0 + 1 * p.val) = 2 * n.val + p.val; omega

/-- Row j of the odd rows' buffer is scale row 2 j + 1. -/
theorem rowO_apply (j : Fin 160) (p : Fin 2) (n : Fin 256) :
    rowO c arg4 harg4 arg7 x3 j (ix3 0 p n) = x3 (ix2 ⟨2 * j.val + 1, by omega⟩ ⟨2 * n.val + p.val, by omega⟩) := by
  unfold rowO
  rw [View.readCov_eq_canon']
  refine (canonO c arg4 harg4 x3 _).trans ?_
  refine congrArg x3 (congrArg₂ ix2 (Fin.ext ?_) (Fin.ext ?_))
  · show 2 * (j.val + 1 * 0) + 1 = 2 * j.val + 1; omega
  · show 2 * (0 + 1 * n.val) + (0 + 1 * p.val) = 2 * n.val + p.val; omega

/-- Block i of chunk k takes scale row 16 k + i. -/
theorem raws_apply (k : Fin 20) (i : Fin 16) (p : Fin 2) (n : Fin 256) :
    raws c arg4 harg4 arg6 arg7 x3 k i (ix3 0 p n) = x3 (ix2 ⟨16 * k.val + i.val, by omega⟩ ⟨2 * n.val + p.val, by omega⟩) := by
  unfold raws
  split
  · rw [rowE_apply]
    refine congrArg x3 (congrArg₂ ix2 (Fin.ext ?_) rfl)
    show 2 * (8 * k.val + i.val / 2) = 16 * k.val + i.val; omega
  · rw [rowO_apply]
    refine congrArg x3 (congrArg₂ ix2 (Fin.ext ?_) rfl)
    show 2 * (8 * k.val + i.val / 2) + 1 = 16 * k.val + i.val; omega

/-- One chunk's term of the accumulation: column Q of the doubled activations against row Q of the doubled weights. -/
def term (x1 : Vec Ideal S16x10240 .bf16) (x2 : Vec Ideal S5120x256 .i8) (x3 : Vec Ideal S320x512 .fp8e4m3) (r : Fin 16) (n : Fin 256)
    (Q : Fin 10240) : EReal :=
  x1 (ix2 r Q) * (Ideal.ofBits .bf16 (pat (x2 (ix2 ⟨Q.val / 2, by omega⟩ n)) (Q.val % 2))
    * x3 (ix2 ⟨Q.val / 32, by omega⟩ ⟨2 * n.val + Q.val % 2, by omega⟩))

/-- Chunk k adds its 512 terms. -/
theorem stepAt_apply (k : Fin 20) (acc : FVec Ideal S16x256 .f32) (r : Fin 16) (n : Fin 256) :
    stepAt c arg2 harg2 arg3 harg3 arg4 harg4 arg6 arg7 x1 x2 x3 k acc (ix2 r n)
      = acc (ix2 r n) + ∑ q : Fin 512, term x1 x2 x3 r n ⟨k.val * 512 + q.val, by omega⟩ := by
  unfold stepAt
  rw [step_apply]
  refine congrArg _ (Finset.sum_congr rfl fun q _ => ?_)
  rw [xs_apply, decode_apply, ws_apply, raws_apply]
  unfold term
  have hq := q.isLt
  have hk := k.isLt
  have e1 : 512 * k.val + q.val = k.val * 512 + q.val := by omega
  have e2 : 256 * k.val + q.val / 2 = (k.val * 512 + q.val) / 2 := by omega
  have e3 : 16 * k.val + q.val / 32 = (k.val * 512 + q.val) / 32 := by omega
  have e4 : q.val % 2 = (k.val * 512 + q.val) % 2 := by omega
  simp only [e1, e2, e3, e4]

/-- The accumulator after n chunks is the sum of their terms. -/
theorem upto_apply (r : Fin 16) (n : Fin 256) : ∀ N (hN : N ≤ 20),
    upto c arg2 harg2 arg3 harg3 arg4 harg4 arg6 arg7 x1 x2 x3 N (ix2 r n)
      = ∑ k : Fin N, ∑ q : Fin 512, term x1 x2 x3 r n ⟨k.val * 512 + q.val, by omega⟩
  | 0, _ => by
    show k0_pay184 (F := Ideal) (ix2 r n) = _
    unfold_payloads
    pointwise
    simp
  | N + 1, hN => by
    rw [upto, dif_pos (by omega), stepAt_apply, upto_apply r n N (by omega)]
    exact (Fin.sum_univ_castSucc (fun k : Fin (N + 1) => ∑ q : Fin 512, term x1 x2 x3 r n ⟨k.val * 512 + q.val, by omega⟩)).symm

/-- The accumulator after all chunks is the whole sum. -/
theorem upto_all (r : Fin 16) (n : Fin 256) :
    upto c arg2 harg2 arg3 harg3 arg4 harg4 arg6 arg7 x1 x2 x3 20 (ix2 r n) = ∑ Q : Fin 10240, term x1 x2 x3 r n Q := by
  rw [upto_apply _ _ _ _ _ _ _ _ _ _ _ _ r n 20 le_rfl, Fin.sum_univ_tiles 20 512 rfl]

end

end Cert.KI.Scales
-- ==== Proof.Spec.lean ====
/- The product both programs compute, entry by entry, as a function of the four arguments, and a sum over rows taken two
   at a time. -/
module

public import proofs.«01_k».proof.Proof.Scales

@[expose] public section

noncomputable section

namespace Cert.Spec

open Idealize.ShloMosaic Cert.KI.Point

/-- The entry at row r and column n: over the input channels, the activation times the decoded weight (the nibble n % 2 of
    byte n / 2) times its block's scale; the sum times the global scale. -/
def entry (x : Fin 8 → Fin 5120 → EReal) (w : Fin 5120 → Fin 8960 → BitVec 8) (s : Fin 320 → Fin 17920 → EReal) (g : EReal)
    (r : Fin 8) (n : Fin 17920) : EReal :=
  (∑ k : Fin 5120, x r k * (Ideal.ofBits .bf16 (pat (w k ⟨n.val / 2, by omega⟩) (n.val % 2)) * s ⟨k.val / 16, by omega⟩ n)) * g

/-- A sum in which only every other term is there. -/
theorem sum_half (p : Fin 2) (f : Fin 10240 → EReal) (h : ∀ k : Fin 5120, ∀ q : Fin 2, q ≠ p → f ⟨k.val * 2 + q.val, by omega⟩ = 0) :
    ∑ Q, f Q = ∑ k : Fin 5120, f ⟨k.val * 2 + p.val, by omega⟩ := by
  rw [Fin.sum_univ_tiles 5120 2 rfl]
  refine Finset.sum_congr rfl fun k _ => ?_
  rw [Finset.sum_eq_single p (fun q _ hq => h k q hq) (fun h => absurd (Finset.mem_univ _) h)]

end Cert.Spec
-- ==== Proof.KernelValue.lean ====
/- The kernel's result array, over the extended reals: every entry is `Spec.entry` of the arguments. -/
module

public import proofs.«01_k».proof.Proof.Spec

@[expose] public section

set_option maxRecDepth 65536

noncomputable section

namespace Cert.KI.KernelValue

open Cert.KI Cert.KI.Gen Cert.KI.Body Cert.KI.Point Cert.KI.Scales Cert.Spec Idealize.ShloMosaic Idealize.ShloMosaic.TcCoe Idealize.SL.Sem

/-- What the output block holds of a product: even columns from its upper eight rows, odd columns from its lower eight. -/
def blockOf (R : FVec Ideal S16x256 .f32) : Vec Ideal S8x512 .bf16 := fun y =>
  R (ix2 (⟨8 * ((y 1).val % 2) + (y 0).val, by have : (y 0).val < 8 := (y 0).isLt; omega⟩ : Fin 16)
    (⟨(y 1).val / 2, by have : (y 1).val < 512 := (y 1).isLt; omega⟩ : Fin 256))

/-- An index of a stored piece is its two coordinates. -/
theorem eta2 (x : S8x256.Idx) : ∃ (r : Fin 8) (l : Fin 256), x = ix2 r l :=
  ⟨x 0, x 1, by funext a; fin_cases a <;> rfl⟩

/-- The two stored pieces leave the output block holding exactly that. -/
theorem canon_outPieces (R : FVec Ideal S16x256 .f32) (y : S8x512.Idx) : View.canon (outPieces R) y = blockOf R y := by
  have h0 : (y 0).val < 8 := (y 0).isLt
  have h1 : (y 1).val < 512 := (y 1).isLt
  refine View.canon_apply_of_pieces (blockOf R) _ ?_ y ?_
  · intro p hp
    rcases List.mem_pair.1 hp with rfl | rfl
    all_goals
      intro x
      obtain ⟨r, l, rfl⟩ := eta2 x
      have hl := l.isLt
      have hr := r.isLt
      refine (interleaved_apply _ _ r l).trans ?_
      split
      all_goals
        pointwise
        refine congrArg R (congrArg₂ ix2 (Fin.ext ?_) (Fin.ext ?_))
    · show r.val = 8 * ((256 + 1 * l.val) % 2) + (0 + 1 * r.val); omega
    · show 128 + l.val / 2 = (256 + 1 * l.val) / 2; omega
    · show 8 + r.val = 8 * ((256 + 1 * l.val) % 2) + (0 + 1 * r.val); omega
    · show 128 + l.val / 2 = (256 + 1 * l.val) / 2; omega
    · show r.val = 8 * ((0 + 1 * l.val) % 2) + (0 + 1 * r.val); omega
    · show l.val / 2 = (0 + 1 * l.val) / 2; omega
    · show 8 + r.val = 8 * ((0 + 1 * l.val) % 2) + (0 + 1 * r.val); omega
    · show l.val / 2 = (0 + 1 * l.val) / 2; omega
  · by_cases h : (y 1).val < 256
    · refine ⟨_, List.mem_cons_of_mem _ (List.mem_singleton.2 rfl), (Rect.mem_set_unit (inb := inb_S8x512_S8x256_0_0)).2 ?_⟩
      intro a; fin_cases a
      · show 0 ≤ (y 0).val ∧ (y 0).val < 0 + 8; omega
      · show 0 ≤ (y 1).val ∧ (y 1).val < 0 + 256; omega
    · refine ⟨_, List.mem_cons_self, (Rect.mem_set_unit (inb := inb_S8x512_S8x256_0_256)).2 ?_⟩
      intro a; fin_cases a
      · show 0 ≤ (y 0).val ∧ (y 0).val < 0 + 8; omega
      · show 256 ≤ (y 1).val ∧ (y 1).val < 256 + 256; omega

section
variable (m : (ℓ : Loc nD τ sig) → Buf (Elt Ideal) ℓ) (c : Dev nD)

/-- The activations, by coordinates. -/
def argX (r : Fin 8) (k : Fin 5120) : EReal := (m ((c : Thread nD τ).loc main_arg0) : Vec Ideal S8x1x5120 .bf16) (ix3 r 0 k)
/-- The packed weights. -/
def argW (k : Fin 5120) (n : Fin 8960) : BitVec 8 := (m ((c : Thread nD τ).loc main_arg1) : Vec Ideal S5120x8960 .i8) (ix2 k n)
/-- The scales. -/
def argS (k : Fin 320) (n : Fin 17920) : EReal := (m ((c : Thread nD τ).loc main_arg2) : Vec Ideal S320x17920 .fp8e4m3) (ix2 k n)
/-- The global scale. -/
def argG : EReal := (m ((c : Thread nD τ).loc main_arg3) : Vec Ideal S_ .f32) ix0

/-- Where the weights' block lies at a point. -/
theorem index2 : ∀ t : Fin cfg0.N, win0_2.index t 0 = 0 ∧ win0_2.index t 1 = t.val :=
  (by decide +kernel : ∀ t : Fin grid0.N, win0_2.index t 0 = 0 ∧ win0_2.index t 1 = t.val)
/-- Where the scales' block lies at a point. -/
theorem index3 : ∀ t : Fin cfg0.N, win0_3.index t 0 = 0 ∧ win0_3.index t 1 = t.val :=
  (by decide +kernel : ∀ t : Fin grid0.N, win0_3.index t 0 = 0 ∧ win0_3.index t 1 = t.val)
/-- Where the activations' block lies at a point. -/
theorem index1 : ∀ t : Fin cfg0.N, win0_1.index t 0 = 0 ∧ win0_1.index t 1 = 0 :=
  (by decide +kernel : ∀ t : Fin grid0.N, win0_1.index t 0 = 0 ∧ win0_1.index t 1 = 0)
/-- Where the global scale's block lies at a point. -/
theorem index0 : ∀ t : Fin cfg0.N, win0_0.index t 0 = 0 ∧ win0_0.index t 1 = 0 :=
  (by decide +kernel : ∀ t : Fin grid0.N, win0_0.index t 0 = 0 ∧ win0_0.index t 1 = 0)
/-- Where the output's block lies at a point. -/
theorem index4 : ∀ t : Fin cfg0.N, win0_4.index t 0 = 0 ∧ win0_4.index t 1 = t.val :=
  (by decide +kernel : ∀ t : Fin grid0.N, win0_4.index t 0 = 0 ∧ win0_4.index t 1 = t.val)

/-- There are 35 points. -/
theorem lt_35 (t : Fin cfg0.N) : t.val < 35 := lt_of_lt_of_eq t.isLt N_0

/-- The weights' block of point t. -/
theorem iblk2_apply (t : Fin cfg0.N) (r : Fin 5120) (n : Fin 256) : (iblk m c 2 t : Vec Ideal S5120x256 .i8) (ix2 r n)
    = argW m c r ⟨256 * t.val + n.val, by have := lt_35 t; omega⟩ := by
  have h := index2 t
  unfold argW
  rw [← V_main_arg1 m c]
  show V m c main_arg1 _ = V m c main_arg1 _
  refine congrArg (V m c main_arg1) (funext fun a => Fin.ext ?_)
  fin_cases a
  · show win0_2.index t 0 * 5120 + 1 * r.val = r.val; rw [h.1]; omega
  · show win0_2.index t 1 * 256 + 1 * n.val = 256 * t.val + n.val; rw [h.2]; omega

/-- The scales' block of point t. -/
theorem iblk3_apply (t : Fin cfg0.N) (r : Fin 320) (n : Fin 512) : (iblk m c 3 t : Vec Ideal S320x512 .fp8e4m3) (ix2 r n)
    = argS m c r ⟨512 * t.val + n.val, by have := lt_35 t; omega⟩ := by
  have h := index3 t
  unfold argS
  rw [← V_main_arg2 m c]
  show V m c main_arg2 _ = V m c main_arg2 _
  refine congrArg (V m c main_arg2) (funext fun a => Fin.ext ?_)
  fin_cases a
  · show win0_3.index t 0 * 320 + 1 * r.val = r.val; rw [h.1]; omega
  · show win0_3.index t 1 * 512 + 1 * n.val = 512 * t.val + n.val; rw [h.2]; omega

/-- The zeros set between the activations. -/
def zeros : Vec Ideal S8x5120 .bf16 :=
  broadcastInDim S8x5120 ![] bcast_S_S8x5120 (constant S_ .bf16 0#16 : FVec Ideal S_ .bf16)

/-- The activations with zeros between: first before every odd column, then before every even one. -/
def doubled (x : Vec Ideal S8x1x5120 .bf16) : Vec Ideal S16x10240 .bf16 :=
  concatenate S16x10240 0
    [⟨S8x10240, shapeCast S8x10240 (concatenate S8x5120x2 2
        [⟨S8x5120x1, broadcastInDim S8x5120x1 ![0, 1] bcast_S8x5120_S8x5120x1_0_1 (shapeCast S8x5120 x shapeCasts_S8x1x5120_S8x5120)⟩,
         ⟨S8x5120x1, broadcastInDim S8x5120x1 ![0, 1] bcast_S8x5120_S8x5120x1_0_1 zeros⟩]
        concatenates_S8x5120x1_S8x5120x1_S8x5120x2_d2) shapeCasts_S8x5120x2_S8x10240⟩,
     ⟨S8x10240, shapeCast S8x10240 (concatenate S8x5120x2 2
        [⟨S8x5120x1, broadcastInDim S8x5120x1 ![0, 1] bcast_S8x5120_S8x5120x1_0_1 zeros⟩,
         ⟨S8x5120x1, broadcastInDim S8x5120x1 ![0, 1] bcast_S8x5120_S8x5120x1_0_1 (shapeCast S8x5120 x shapeCasts_S8x1x5120_S8x5120)⟩]
        concatenates_S8x5120x1_S8x5120x1_S8x5120x2_d2) shapeCasts_S8x5120x2_S8x10240⟩]
    concatenates_S8x10240_S8x10240_S16x10240_d0

/-- The host lines before the region leave the doubled activations. -/
theorem V_main_v10 : V m c main_v10 = doubled (m ((c : Thread nD τ).loc main_arg0)) := by
  unfold_abbrev_sides
  after_results
  rfl

/-- Column 2 k + p of the doubled activations: the activation of channel k where row r is of half p, else zero. -/
theorem doubled_apply (x : Vec Ideal S8x1x5120 .bf16) (r : Fin 16) (k : Fin 5120) (p : Fin 2) :
    doubled x (ix2 r ⟨k.val * 2 + p.val, by omega⟩) = if r.val / 8 = p.val then x (ix3 ⟨r.val % 8, by omega⟩ 0 k) else 0 := by
  pointwise [doubled, zeros]
  have hr := r.isLt
  have hp := p.isLt
  have e1 : r.val < 8 → r.val % 8 = r.val := fun h => by omega
  have e2 : ¬ r.val < 8 → r.val % 8 = r.val - 8 := fun h => by omega
  by_cases h : r.val < 8
  · simp only [dif_pos h, e1 h]
    split_ifs <;> first | rfl | (exfalso; omega)
  · simp only [dif_neg h, e2 h]
    by_cases hq : p.val < 1
    · rw [if_neg (by omega : ¬ r.val / 8 = p.val)]; simp only [dif_pos hq]
    · rw [if_pos (by omega : r.val / 8 = p.val)]; simp only [dif_neg hq]

/-- The host lines before the region leave the global scale as a one by one array. -/
theorem V_main_v11 : V m c main_v11 = shapeCast S1x1 (m ((c : Thread nD τ).loc main_arg3) : Vec Ideal S_ .f32) shapeCasts_S_S1x1 := by
  unfold_abbrev_sides
  after_results
  rfl

/-- The activations' block of every point is the whole doubled array. -/
theorem iblk1_apply (t : Fin cfg0.N) (r : Fin 16) (k : Fin 5120) (p : Fin 2) :
    (iblk m c 1 t : Vec Ideal S16x10240 .bf16) (ix2 r ⟨k.val * 2 + p.val, by omega⟩)
      = if r.val / 8 = p.val then argX m c ⟨r.val % 8, by omega⟩ k else 0 := by
  have h := index1 t
  refine Eq.trans ?_ (doubled_apply (m ((c : Thread nD τ).loc main_arg0)) r k p)
  rw [← V_main_v10 m c]
  show V m c main_v10 _ = V m c main_v10 _
  refine congrArg (V m c main_v10) (funext fun a => Fin.ext ?_)
  fin_cases a
  · show win0_1.index t 0 * 16 + 1 * r.val = r.val; rw [h.1]; omega
  · show win0_1.index t 1 * 10240 + 1 * (k.val * 2 + p.val) = k.val * 2 + p.val; rw [h.2]; omega

/-- The scalar block of every point is the global scale. -/
theorem iblk0_apply (t : Fin cfg0.N) : (iblk m c 0 t : Vec Ideal S1x1 .f32) (ix2 0 0) = argG m c := by
  have h := index0 t
  have e : (shapeCast S1x1 (m ((c : Thread nD τ).loc main_arg3) : Vec Ideal S_ .f32) shapeCasts_S_S1x1) (ix2 0 0) = argG m c := by
    unfold argG
    pointwise
  rw [← e, ← V_main_v11 m c]
  show V m c main_v11 _ = V m c main_v11 _
  refine congrArg (V m c main_v11) (funext fun a => Fin.ext ?_)
  fin_cases a
  · show win0_0.index t 0 * 1 + 1 * 0 = 0; rw [h.1]
  · show win0_0.index t 1 * 1 + 1 * 0 = 0; rw [h.2]

/-- The whole accumulation at row r of a point's block: the activations of row r % 8 against the weights' nibble r / 8. -/
theorem sum_term (t : Fin cfg0.N) (r : Fin 16) (n : Fin 256) :
    ∑ Q, term (iblk m c 1 t) (iblk m c 2 t) (iblk m c 3 t) r n Q
      = ∑ k : Fin 5120, argX m c ⟨r.val % 8, by omega⟩ k *
          (Ideal.ofBits .bf16 (pat (argW m c k ⟨256 * t.val + n.val, by have := lt_35 t; omega⟩) (r.val / 8))
            * argS m c ⟨k.val / 16, by omega⟩ ⟨512 * t.val + (2 * n.val + r.val / 8), by have := lt_35 t; omega⟩) := by
  have hr := r.isLt
  rw [sum_half ⟨r.val / 8, by omega⟩]
  · refine Finset.sum_congr rfl fun k _ => ?_
    unfold term
    have e := iblk1_apply m c t r k ⟨r.val / 8, by omega⟩
    rw [if_pos rfl] at e
    rw [e]
    have e1 : (k.val * 2 + r.val / 8) / 2 = k.val := by omega
    have e2 : (k.val * 2 + r.val / 8) % 2 = r.val / 8 := by omega
    have e3 : (k.val * 2 + r.val / 8) / 32 = k.val / 16 := by omega
    simp only [e1, e2, e3]
    rw [iblk2_apply, iblk3_apply]
  · intro k q hq
    unfold term
    have e := iblk1_apply m c t r k q
    rw [if_neg (fun h => hq (Fin.ext h.symm))] at e
    rw [e, zero_mul]

/-- The kernel's result array. -/
def final : Vec Ideal S8x17920 .bf16 := fun i =>
  entry (argX m c) (argW m c) (argS m c) (argG m c) (i 0) (i 1)

/-- The global scale as the body reads it. -/
theorem scalar_apply (arg1 : Memref sig Kind.tc Space.smem S1x1 EltTy.f32) (harg1 : arg1.IsWhole) (x0 : Vec Ideal S1x1 .f32) :
    kernelRun0_A.sl.r c arg1 harg1 x0 = x0 (ix2 0 0) := by
  unfold kernelRun0_A.sl.r
  rw [View.readAt_eq_ld, Memref.IsWhole.read_unread]
  exact View.ld_unit_apply_of _ _ _ _ _ _ (by intro a; fin_cases a <;> rfl)

/-- What point t writes back is its block of the result array. -/
theorem flushed_eq (t : Fin cfg0.N) : (dats m 0 c).flushed 4 t = ((cfg0.win 4).blk t).view.read (Elt Ideal) (final m c) := by
  rw [Value.flushed4_A]
  unfold out0_A_4
  rw [pieces, View.read_writes_junk_eq_canon]
  funext y
  have h := index4 t
  have ht := lt_35 t
  have h0 : (y 0).val < 8 := (y 0).isLt
  have h1 : (y 1).val < 512 := (y 1).isLt
  show View.canon (outPieces _) y = final m c _
  rw [canon_outPieces]
  unfold blockOf prod
  pointwise
  rw [upto_all, sum_term, scalar_apply, iblk0_apply]
  have E0 : ((cfg0.win 4).blk t).view.emb y 0 = (⟨(y 0).val, h0⟩ : Fin 8) := Fin.ext (by
    show win0_4.index t 0 * 8 + 1 * (y 0).val = (y 0).val; rw [h.1]; omega)
  have E1 : ((cfg0.win 4).blk t).view.emb y 1 = (⟨512 * t.val + (y 1).val, by omega⟩ : Fin 17920) := Fin.ext (by
    show win0_4.index t 1 * 512 + 1 * (y 1).val = 512 * t.val + (y 1).val; rw [h.2]; omega)
  show _ = entry (argX m c) (argW m c) (argS m c) (argG m c) (((cfg0.win 4).blk t).view.emb y 0) (((cfg0.win 4).blk t).view.emb y 1)
  rw [E0, E1]
  unfold entry
  have e1 : (8 * ((y 1).val % 2) + (y 0).val) % 8 = (y 0).val := by omega
  have e2 : 256 * t.val + (y 1).val / 2 = (512 * t.val + (y 1).val) / 2 := by omega
  have e3 : (8 * ((y 1).val % 2) + (y 0).val) / 8 = (512 * t.val + (y 1).val) % 2 := by omega
  have e4 : 512 * t.val + (2 * ((y 1).val / 2) + (512 * t.val + (y 1).val) % 2) = 512 * t.val + (y 1).val := by omega
  simp only [e1, e2, e3, e4]

/-- An index of the result array is in point t's block iff its column is. -/
theorem mem_blk (t : Fin cfg0.N) (i : S8x17920.Idx) :
    i ∈ ((cfg0.win 4).blk t).view.set ↔ t.val * 512 ≤ (i 1 : Nat) ∧ (i 1 : Nat) < t.val * 512 + 512 := by
  show i ∈ ((View.whole main_v12).slice (win0_4.rect t)).set ↔ _
  rw [View.set_slice_whole, Rect.mem_set_unit]
  have h0 : (i 0 : Nat) < 8 := (i 0).isLt
  have h := index4 t
  have e0 : win0_4.index t 0 * win0_4.size 0 = 0 := by rw [h.1]; rfl
  have e1 : win0_4.index t 1 * win0_4.size 1 = t.val * 512 := by rw [h.2]; rfl
  refine ⟨fun H => ?_, fun H a => ?_⟩
  · have : win0_4.index t 1 * win0_4.size 1 ≤ (i 1 : Nat) ∧ (i 1 : Nat) < win0_4.index t 1 * win0_4.size 1 + 512 := H 1
    rw [e1] at this; exact this
  · match a with
    | ⟨0, _⟩ => show win0_4.index t 0 * win0_4.size 0 ≤ (i 0 : Nat) ∧ (i 0 : Nat) < win0_4.index t 0 * win0_4.size 0 + 8
                rw [e0]; omega
    | ⟨1, _⟩ => show win0_4.index t 1 * win0_4.size 1 ≤ (i 1 : Nat) ∧ (i 1 : Nat) < win0_4.index t 1 * win0_4.size 1 + 512
                rw [e1]; exact H

/-- The blocks tile the result array. -/
theorem cover (i : S8x17920.Idx) : ∃ t : Fin cfg0.N, (cfg0.win 4).flush t = true ∧ i ∈ ((cfg0.win 4).blk t).view.set := by
  have h1 : (i 1 : Nat) < 17920 := (i 1).isLt
  have hN : cfg0.N = 35 := N_0
  refine ⟨⟨(i 1 : Nat) / 512, by omega⟩, (by decide +kernel : ∀ t : Fin grid0.N, (win0_4).flush t = true) _, ?_⟩
  rw [mem_blk]
  dsimp only
  omega

/-- So the result array ends holding the product. -/
theorem final_eq : (dats m 0 c).arrAt 4 cfg0.N = final m c :=
  (dats m 0 c).arrAt_eq_of_cover 4 (final m c) (fun t _ => flushed_eq m c t) cover

end

end Cert.KI.KernelValue
-- ==== Proof.RefValue.lean ====
/- The reference's result array, over the extended reals: every entry is `Spec.entry` of the arguments. -/
module

public import proofs.«01_k».proof.Proof.Spec
public import proofs.«01_k».proof.Proof.Gen.ReferenceIdeal.Value

@[expose] public section

set_option maxRecDepth 65536

noncomputable section

namespace Cert.ReferenceIdeal.RefValue

open Cert.ReferenceIdeal Cert.ReferenceIdeal.Gen Cert.Spec Idealize.ShloMosaic Idealize.ShloMosaic.TcCoe Idealize.SL.Sem
open Cert.KI.Point (pat pat32)

/-- The pattern of the low nibble of a byte, cut to sixteen bits. -/
theorem pat_low : ∀ w : BitVec 8, (pat32 (w.setWidth 32)).setWidth 16 = pat w 0 := by decide +kernel

/-- The pattern of the high nibble. -/
theorem pat_high : ∀ w : BitVec 8, (pat32 (IntOp.shrsi .vector (w.setWidth 32) 4#32)).setWidth 16 = pat w 1 := by decide +kernel

/-- The weights decoded from the low nibbles, times their scales. -/
theorem low_apply (w : Vec Ideal S5120x8960 .i8) (s : Vec Ideal S320x8960 .fp8e4m3) (k : Fin 5120) (n : Fin 8960) :
    k0_pay3 w s (ix2 k n) = Ideal.ofBits .bf16 (pat (w (ix2 k n)) 0) * s (ix2 ⟨k.val / 16, by omega⟩ n) := by
  unfold_payloads
  pointwise
  rw [← pat_low]
  rfl

/-- The stored product: an even column from the low nibbles' weights, an odd one from the high nibbles'. -/
theorem out_apply (lo : FVec Ideal S5120x8960 .bf16) (w : Vec Ideal S5120x8960 .i8) (s : Vec Ideal S320x8960 .fp8e4m3)
    (x : Vec Ideal S8x5120 .bf16) (g : Vec Ideal S1x1 .f32) (r : Fin 8) (n : Fin 17920) :
    k0_pay1 lo (k0_pay4 s) (k0_pay6 w) (k0_pay7 w) (k0_pay8 w) k0_pay9 x g (ix2 r n)
      = (if n.val % 2 = 0 then ∑ k : Fin 5120, x (ix2 r k) * lo (ix2 k ⟨n.val / 2, by omega⟩)
        else ∑ k : Fin 5120, x (ix2 r k) * (Ideal.ofBits .bf16 (pat (w (ix2 k ⟨n.val / 2, by omega⟩)) 1) * s (ix2 ⟨k.val / 16, by omega⟩ ⟨n.val / 2, by omega⟩)))
        * g (ix2 0 0) := by
  unfold_payloads
  pointwise
  refine congrArg (· * g (ix2 0 0)) ?_
  by_cases h : n.val % 2 = 0
  · rw [dif_pos (by omega), if_pos h]
  · rw [dif_neg (by omega), if_neg h]
    refine Finset.sum_congr rfl fun k _ => ?_
    rw [← pat_high]
    rfl

/-- The activations without their middle axis. -/
theorem squeeze (x : Vec Ideal S8x1x5120 .bf16) (r : Fin 8) (k : Fin 5120) :
    shapeCast S8x5120 x shapeCasts_S8x1x5120_S8x5120 (ix2 r k) = x (ix3 r 0 k) := by pointwise

/-- A scalar as a one by one array. -/
theorem scalar (x : Vec Ideal S_ .f32) : shapeCast S1x1 x shapeCasts_S_S1x1 (ix2 0 0) = x ix0 := by pointwise

section
variable (m : (ℓ : Loc nD τ sig) → Buf (Elt Ideal) ℓ) (c : Dev nD)

/-- The activations, by coordinates. -/
def argX (r : Fin 8) (k : Fin 5120) : EReal := (m ((c : Thread nD τ).loc main_arg0) : Vec Ideal S8x1x5120 .bf16) (ix3 r 0 k)
/-- The packed weights. -/
def argW (k : Fin 5120) (n : Fin 8960) : BitVec 8 := (m ((c : Thread nD τ).loc main_arg1) : Vec Ideal S5120x8960 .i8) (ix2 k n)
/-- The scales. -/
def argS (k : Fin 320) (n : Fin 17920) : EReal := (m ((c : Thread nD τ).loc main_arg2) : Vec Ideal S320x17920 .fp8e4m3) (ix2 k n)
/-- The global scale. -/
def argG : EReal := (m ((c : Thread nD τ).loc main_arg3) : Vec Ideal S_ .f32) ix0

/-- The activations the region finds. -/
theorem V_x : V m c main_v0 = shapeCast S8x5120 (m ((c : Thread nD τ).loc main_arg0) : Vec Ideal S8x1x5120 .bf16) shapeCasts_S8x1x5120_S8x5120 := by
  unfold_abbrev_sides
  after_results
  rfl

/-- The even columns of the scales. -/
theorem V_even : V m c main_v1 = Host.slice S320x8960 ![0, 0] ![1, 2] (m ((c : Thread nD τ).loc main_arg2) : Vec Ideal S320x17920 .fp8e4m3) slicesBy_S320x17920_S320x8960_0s1_0s2 := by
  unfold_abbrev_sides
  after_results

/-- The odd columns of the scales. -/
theorem V_odd : V m c main_v2 = Host.slice S320x8960 ![0, 1] ![1, 2] (m ((c : Thread nD τ).loc main_arg2) : Vec Ideal S320x17920 .fp8e4m3) slicesBy_S320x17920_S320x8960_0s1_1s2 := by
  unfold_abbrev_sides
  after_results

/-- The global scale. -/
theorem V_g : V m c main_v3 = shapeCast S1x1 (m ((c : Thread nD τ).loc main_arg3) : Vec Ideal S_ .f32) shapeCasts_S_S1x1 := by
  unfold_abbrev_sides
  after_results
  rfl

/-- Every window is its whole array: its one block starts at the origin. -/
theorem index_zero : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0))

/-- The activations the body loads. -/
theorem iblk0_apply (t : Fin cfg0.N) (r : Fin 8) (k : Fin 5120) : (iblk m c 0 t : Vec Ideal S8x5120 .bf16) (ix2 r k) = argX m c r k := by
  have h := (index_zero t).1
  have e : (shapeCast S8x5120 (m ((c : Thread nD τ).loc main_arg0) : Vec Ideal S8x1x5120 .bf16) shapeCasts_S8x1x5120_S8x5120) (ix2 r k) = argX m c r k := squeeze _ r k
  rw [← e, ← V_x m c]
  show V m c main_v0 _ = V m c main_v0 _
  refine congrArg (V m c main_v0) (funext fun a => Fin.ext ?_)
  fin_cases a
  · show win0_0.index t 0 * 8 + 1 * r.val = r.val; rw [h 0]; omega
  · show win0_0.index t 1 * 5120 + 1 * k.val = k.val; rw [h 1]; omega

/-- The packed weights the body loads. -/
theorem iblk1_apply (t : Fin cfg0.N) (k : Fin 5120) (n : Fin 8960) : (iblk m c 1 t : Vec Ideal S5120x8960 .i8) (ix2 k n) = argW m c k n := by
  have h := (index_zero t).2.1
  unfold argW
  rw [← V_main_arg1 m c]
  show V m c main_arg1 _ = V m c main_arg1 _
  refine congrArg (V m c main_arg1) (funext fun a => Fin.ext ?_)
  fin_cases a
  · show win0_1.index t 0 * 5120 + 1 * k.val = k.val; rw [h 0]; omega
  · show win0_1.index t 1 * 8960 + 1 * n.val = n.val; rw [h 1]; omega

/-- The first scales the body loads are those of the even columns. -/
theorem iblk2_apply (t : Fin cfg0.N) (k : Fin 320) (n : Fin 8960) :
    (iblk m c 2 t : Vec Ideal S320x8960 .fp8e4m3) (ix2 k n) = argS m c k ⟨2 * n.val, by omega⟩ := by
  have h := (index_zero t).2.2.1
  have e : (Host.slice S320x8960 ![0, 0] ![1, 2] (m ((c : Thread nD τ).loc main_arg2) : Vec Ideal S320x17920 .fp8e4m3) slicesBy_S320x17920_S320x8960_0s1_0s2) (ix2 k n)
      = argS m c k ⟨2 * n.val, by omega⟩ := by
    unfold argS
    refine congrArg (m ((c : Thread nD τ).loc main_arg2) : Vec Ideal S320x17920 .fp8e4m3) (funext fun a => Fin.ext ?_)
    fin_cases a
    · show 0 + 1 * k.val = k.val; omega
    · show 0 + 2 * n.val = 2 * n.val; omega
  rw [← e, ← V_even m c]
  show V m c main_v1 _ = V m c main_v1 _
  refine congrArg (V m c main_v1) (funext fun a => Fin.ext ?_)
  fin_cases a
  · show win0_2.index t 0 * 320 + 1 * k.val = k.val; rw [h 0]; omega
  · show win0_2.index t 1 * 8960 + 1 * n.val = n.val; rw [h 1]; omega

/-- The second ones are those of the odd columns. -/
theorem iblk3_apply (t : Fin cfg0.N) (k : Fin 320) (n : Fin 8960) :
    (iblk m c 3 t : Vec Ideal S320x8960 .fp8e4m3) (ix2 k n) = argS m c k ⟨2 * n.val + 1, by omega⟩ := by
  have h := (index_zero t).2.2.2.1
  have e : (Host.slice S320x8960 ![0, 1] ![1, 2] (m ((c : Thread nD τ).loc main_arg2) : Vec Ideal S320x17920 .fp8e4m3) slicesBy_S320x17920_S320x8960_0s1_1s2) (ix2 k n)
      = argS m c k ⟨2 * n.val + 1, by omega⟩ := by
    unfold argS
    refine congrArg (m ((c : Thread nD τ).loc main_arg2) : Vec Ideal S320x17920 .fp8e4m3) (funext fun a => Fin.ext ?_)
    fin_cases a
    · show 0 + 1 * k.val = k.val; omega
    · show 1 + 2 * n.val = 2 * n.val + 1; omega
  rw [← e, ← V_odd m c]
  show V m c main_v2 _ = V m c main_v2 _
  refine congrArg (V m c main_v2) (funext fun a => Fin.ext ?_)
  fin_cases a
  · show win0_3.index t 0 * 320 + 1 * k.val = k.val; rw [h 0]; omega
  · show win0_3.index t 1 * 8960 + 1 * n.val = n.val; rw [h 1]; omega

/-- The scalar the body loads is the global scale. -/
theorem iblk4_apply (t : Fin cfg0.N) : (iblk m c 4 t : Vec Ideal S1x1 .f32) (ix2 0 0) = argG m c := by
  have h := (index_zero t).2.2.2.2.1
  have e : (shapeCast S1x1 (m ((c : Thread nD τ).loc main_arg3) : Vec Ideal S_ .f32) shapeCasts_S_S1x1) (ix2 0 0) = argG m c := scalar _
  rw [← e, ← V_g m c]
  show V m c main_v3 _ = V m c main_v3 _
  refine congrArg (V m c main_v3) (funext fun a => Fin.ext ?_)
  fin_cases a
  · show win0_4.index t 0 * 1 + 1 * 0 = 0; rw [h 0]
  · show win0_4.index t 1 * 1 + 1 * 0 = 0; rw [h 1]

/-- The reference's result array. -/
def final : Vec Ideal S8x17920 .bf16 := fun i =>
  entry (argX m c) (argW m c) (argS m c) (argG m c) (i 0) (i 1)

/-- The origin of a two-axis array. -/
theorem hz : (![0, 0] : Fin 2 → Nat) = 0 := by funext a; fin_cases a <;> rfl

/-- An index of the result is its two coordinates. -/
theorem eta2 (x : S8x17920.Idx) : ∃ (r : Fin 8) (n : Fin 17920), x = ix2 r n :=
  ⟨x 0, x 1, by funext a; fin_cases a <;> rfl⟩

/-- What the body stores, from its windows' blocks. -/
theorem out_entry (t : Fin cfg0.N) (r : Fin 8) (n : Fin 17920) :
    out0_5 (iblk m c 0 t) (iblk m c 1 t) (iblk m c 2 t) (iblk m c 3 t) (iblk m c 4 t) (ix2 r n)
      = entry (argX m c) (argW m c) (argS m c) (argG m c) r n := by
  unfold out0_5
  rw [View.canon_unit_zero hz, View.ld_unit_zero hz, View.ld_unit_zero hz, View.ld_unit_zero hz, View.ld_unit_zero hz, View.ld_unit_zero hz]
  rw [out_apply, iblk4_apply]
  unfold entry
  refine congrArg (· * argG m c) ?_
  by_cases h : n.val % 2 = 0
  · rw [if_pos h]
    refine Finset.sum_congr rfl fun k _ => ?_
    rw [low_apply, iblk0_apply, iblk1_apply, iblk2_apply]
    have e : 2 * (n.val / 2) = n.val := by omega
    simp only [e, h]
  · rw [if_neg h]
    refine Finset.sum_congr rfl fun k _ => ?_
    rw [iblk0_apply, iblk1_apply, iblk3_apply]
    have e : 2 * (n.val / 2) + 1 = n.val := by omega
    have h1 : n.val % 2 = 1 := by omega
    simp only [e, h1]

/-- What the one point writes back is the result array. -/
theorem flushed_eq (t : Fin cfg0.N) : (dats m 0 c).flushed 5 t = ((cfg0.win 5).blk t).view.read (Elt Ideal) (final m c) := by
  rw [Value.flushed5]
  funext y
  have h := (index_zero t).2.2.2.2.2
  obtain ⟨r, n, rfl⟩ := eta2 y
  refine (out_entry m c t r n).trans ?_
  have E0 : ((cfg0.win 5).blk t).view.emb (ix2 r n) 0 = r := Fin.ext (by
    show win0_5.index t 0 * 8 + 1 * r.val = r.val; rw [h 0]; omega)
  have E1 : ((cfg0.win 5).blk t).view.emb (ix2 r n) 1 = n := Fin.ext (by
    show win0_5.index t 1 * 17920 + 1 * n.val = n.val; rw [h 1]; omega)
  show _ = entry (argX m c) (argW m c) (argS m c) (argG m c) (((cfg0.win 5).blk t).view.emb (ix2 r n) 0) (((cfg0.win 5).blk t).view.emb (ix2 r n) 1)
  rw [E0, E1]

/-- The one block is the whole array. -/
theorem cover (i : S8x17920.Idx) : ∃ t : Fin cfg0.N, (cfg0.win 5).flush t = true ∧ i ∈ ((cfg0.win 5).blk t).view.set := by
  have h0 : (i 0 : Nat) < 8 := (i 0).isLt
  have h1 : (i 1 : Nat) < 17920 := (i 1).isLt
  have hN : 0 < cfg0.N := (by decide +kernel : 0 < grid0.N)
  refine ⟨⟨0, hN⟩, (by decide +kernel : ∀ t : Fin grid0.N, (win0_5).flush t = true) _, ?_⟩
  have h := (index_zero ⟨0, hN⟩).2.2.2.2.2
  show i ∈ ((View.whole main_v4).slice (win0_5.rect ⟨0, hN⟩)).set
  rw [View.set_slice_whole, Rect.mem_set_unit]
  intro a
  match a with
  | ⟨0, _⟩ => show win0_5.index ⟨0, hN⟩ 0 * 8 ≤ (i 0 : Nat) ∧ (i 0 : Nat) < win0_5.index ⟨0, hN⟩ 0 * 8 + 8
              rw [h 0]; omega
  | ⟨1, _⟩ => show win0_5.index ⟨0, hN⟩ 1 * 17920 ≤ (i 1 : Nat) ∧ (i 1 : Nat) < win0_5.index ⟨0, hN⟩ 1 * 17920 + 17920
              rw [h 1]; omega

/-- So the result array ends holding the product. -/
theorem final_eq : (dats m 0 c).arrAt 5 cfg0.N = final m c :=
  (dats m 0 c).arrAt_eq_of_cover 5 (final m c) (fun t _ => flushed_eq m c t) cover

end

end Cert.ReferenceIdeal.RefValue
-- ==== Proof.lean ====
module

public import proofs.«01_k».proof.Defs
public import proofs.«01_k».proof.Proof.Gen.K
public import proofs.«01_k».proof.Proof.Gen.K.Skeleton
public import proofs.«01_k».proof.Proof.Gen.K.Launch
public import proofs.«01_k».proof.Proof.Gen.K.Points
public import proofs.«01_k».proof.Proof.Gen.K.Frame
public import proofs.«01_k».proof.Proof.Gen.KI
public import proofs.«01_k».proof.Proof.Gen.KI.Skeleton
public import proofs.«01_k».proof.Proof.Gen.KI.Launch
public import proofs.«01_k».proof.Proof.Gen.KI.Points
public import proofs.«01_k».proof.Proof.Gen.KI.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KI.Value
public import proofs.«01_k».proof.Proof.Gen.ReferenceIdeal.Value
public import proofs.«01_k».proof.Proof.KernelValue
public import proofs.«01_k».proof.Proof.RefValue
public import Idealize.ShloMosaic.Adequacy
public import Idealize.ShloMosaic.Init
public import Idealize.ShloMosaic.Lib.Bf16PairInverse
public import Idealize.ShloMosaic.Lib.Quiescent

@[expose] public section

noncomputable section

namespace Cert.Proof

open Idealize.ShloMosaic Idealize.SL.Sem

/-- The kernel runs, returns and leaves its arguments unchanged. -/
theorem frame_K : Cert.quiescent_K (hK := Cert.K.Gen.facts) := fun m ρ _ => Cert.K.Gen.frame m ρ
/-- So does its idealization. -/
theorem frame_KI : Cert.quiescent_KI (hKI := Cert.KI.Gen.facts) := fun m ρ _ => Cert.KI.Gen.frame m ρ
/-- So does the reference. -/
theorem frame_RI : Cert.quiescent_ReferenceIdeal (hReferenceIdeal := Cert.ReferenceIdeal.Gen.facts) := fun m ρ _ => Cert.ReferenceIdeal.Gen.frame m ρ

/-- The rewrites of the idealization: the two scratch buffers of packed words re-typed, and pairs of bf16 read from or
    packed into one word at each shape at which the kernel does so. -/
theorem preserves : Cert.preserves_K_KI :=
  open Cert.KI IdealRules.bf16_pair in
  ⟨bufferStatement S160x2x256 S160x1x256, statement S32x128 S16x128, statement S16x2x128 S16x1x128,
    statement S1x2x256 S1x1x256, statement S2x256 S1x256⟩

/-- Over the extended reals the kernel's result array and the reference's are the same, entry by entry: both are the
    product `Spec.entry` of the four arguments, on which the two runs agree. -/
theorem algebraic : Cert.algebraic_KI_ReferenceIdeal (hKI := Cert.KI.Gen.facts) (hReferenceIdeal := Cert.ReferenceIdeal.Gen.facts) := by
  intro m ρ m' ρ' _ hagree
  refine ⟨fun c => Cert.KI.KernelValue.final m c, ?_, ?_⟩
  · exact (θ_run Cert.KI.defs _ _).mono (fun _ h c => ⟨(h c).1.trans (Cert.KI.KernelValue.final_eq m c), (h c).2⟩)
      (Cert.KI.Value.run_blocks (F := Ideal) m ρ)
  refine (θ_run Cert.ReferenceIdeal.defs _ _).mono
    (fun _ h c => ⟨((h c).1.trans (Cert.ReferenceIdeal.RefValue.final_eq m' c)).trans ?_, (h c).2⟩)
    (Cert.ReferenceIdeal.Value.run_blocks (F := Ideal) m' ρ')
  unfold Cert.ReferenceIdeal.RefValue.final Cert.KI.KernelValue.final
    Cert.ReferenceIdeal.RefValue.argX Cert.ReferenceIdeal.RefValue.argW Cert.ReferenceIdeal.RefValue.argS Cert.ReferenceIdeal.RefValue.argG
    Cert.KI.KernelValue.argX Cert.KI.KernelValue.argW Cert.KI.KernelValue.argS Cert.KI.KernelValue.argG
  rw [(hagree c).1, (hagree c).2.1, (hagree c).2.2.1, (hagree c).2.2.2]

/-- Everything the certificate claims. -/
theorem claim : Cert.Claim := ⟨Cert.K.Gen.facts, Cert.KI.Gen.facts, Cert.ReferenceIdeal.Gen.facts,
  frame_K, frame_KI, frame_RI, preserves, algebraic⟩

end Cert.Proof

end
